-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S1024x1024 : Shape := ⟨2, ![1024, 1024]⟩
abbrev S8x4x25x1024 : Shape := ⟨4, ![8, 4, 25, 1024]⟩
abbrev S_ : Shape := ⟨0, ![]⟩
abbrev S4 : Shape := ⟨1, ![4]⟩
abbrev S8x4 : Shape := ⟨2, ![8, 4]⟩
abbrev S1 : Shape := ⟨1, ![1]⟩
abbrev S1x512x1024 : Shape := ⟨3, ![1, 512, 1024]⟩
abbrev S512x1024 : Shape := ⟨2, ![512, 1024]⟩
abbrev S1024x32 : Shape := ⟨2, ![1024, 32]⟩
abbrev S1x32 : Shape := ⟨2, ![1, 32]⟩
abbrev S1023x32 : Shape := ⟨2, ![1023, 32]⟩
abbrev S2x32 : Shape := ⟨2, ![2, 32]⟩
abbrev S1022x32 : Shape := ⟨2, ![1022, 32]⟩
abbrev S4x32 : Shape := ⟨2, ![4, 32]⟩
abbrev S1020x32 : Shape := ⟨2, ![1020, 32]⟩
abbrev S8x32 : Shape := ⟨2, ![8, 32]⟩
abbrev S1016x32 : Shape := ⟨2, ![1016, 32]⟩
abbrev S16x32 : Shape := ⟨2, ![16, 32]⟩
abbrev S1008x32 : Shape := ⟨2, ![1008, 32]⟩
abbrev S32x32 : Shape := ⟨2, ![32, 32]⟩
abbrev S992x32 : Shape := ⟨2, ![992, 32]⟩
abbrev S64x32 : Shape := ⟨2, ![64, 32]⟩
abbrev S960x32 : Shape := ⟨2, ![960, 32]⟩
abbrev S128x32 : Shape := ⟨2, ![128, 32]⟩
abbrev S896x32 : Shape := ⟨2, ![896, 32]⟩
abbrev S256x32 : Shape := ⟨2, ![256, 32]⟩
abbrev S768x32 : Shape := ⟨2, ![768, 32]⟩
abbrev S32x100 : Shape := ⟨2, ![32, 100]⟩
abbrev S1024x100 : Shape := ⟨2, ![1024, 100]⟩
abbrev S100x512 : Shape := ⟨2, ![100, 512]⟩
abbrev S25x512 : Shape := ⟨2, ![25, 512]⟩
abbrev S25x1024 : Shape := ⟨2, ![25, 1024]⟩
abbrev S1x1x25x1024 : Shape := ⟨4, ![1, 1, 25, 1024]⟩
abbrev S1x1 : Shape := ⟨2, ![1, 1]⟩
abbrev S32x800 : Shape := ⟨2, ![32, 800]⟩
abbrev S1024x800 : Shape := ⟨2, ![1024, 800]⟩
abbrev S800x1024 : Shape := ⟨2, ![800, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x1, .i32⟩
  | .hbm, ⟨3, _⟩ => ⟨S4x512x1024, .f32⟩
  | .hbm, ⟨4, _⟩ => ⟨S1024x1024, .f32⟩
  | .local _ .vmem, ⟨0, _⟩ => ⟨S1024x1, .i32⟩
  | .local _ .vmem, ⟨1, _⟩ => ⟨S1024x1024, .f32⟩
  | .local _ .vmem, ⟨2, _⟩ => ⟨S1024x512, .f32⟩
  | .local _ .vmem, ⟨3, _⟩ => ⟨S4x512x1024, .f32⟩
  | .local _ .vmem, ⟨4, _⟩ => ⟨S8x4x25x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 2 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_36 : BitVec 32 := 1#32
  let v42 : BitVec 32 := Scalar.muli v4 c1_i32_36
  let v43 : BitVec 32 := Scalar.addi c0_i32_37 v42
  v43.toNat
def k0_dev2 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_39 : BitVec 32 := 1#32
  let v44 : BitVec 32 := Scalar.muli v6 c1_i32_39
  let v45 : BitVec 32 := Scalar.addi c0_i32_40 v44
  v45.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_42 : BitVec 32 := 1#32
  let v46 : BitVec 32 := Scalar.muli v8 c1_i32_42
  let v47 : BitVec 32 := Scalar.addi c0_i32_43 v46
  v47.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_45 : BitVec 32 := 1#32
  let v48 : BitVec 32 := Scalar.muli v10 c1_i32_45
  let v49 : BitVec 32 := Scalar.addi c0_i32_46 v48
  v49.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_48 : BitVec 32 := 1#32
  let v50 : BitVec 32 := Scalar.muli v12 c1_i32_48
  let v51 : BitVec 32 := Scalar.addi c0_i32_49 v50
  v51.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_51 : BitVec 32 := 1#32
  let v52 : BitVec 32 := Scalar.muli v14 c1_i32_51
  let v53 : BitVec 32 := Scalar.addi c0_i32_52 v52
  v53.toNat
def k0_dev7 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_54 : BitVec 32 := 1#32
  let v54 : BitVec 32 := Scalar.muli v16 c1_i32_54
  let v55 : BitVec 32 := Scalar.addi c0_i32_55 v54
  v55.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v182 : Index := Scalar.indexCast v2
  let c0_97 : Index := 0#32
  let c0_98 : Index := 0#32
  let c0_99 : Index := 0#32
  ![v182.toNat, 0, 0, 0]
def k0_off2 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c0_i32_103 : BitVec 32 := 0#32
  ![v4.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_102 : BitVec 32 := 0#32
  ![v2.toNat, 0]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_101 : BitVec 32 := 0#32
  let c0_i32_106 : BitVec 32 := 0#32
  let c0_i32_107 : BitVec 32 := 0#32
  ![v2.toNat, 0, 0, 0]
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_104 : BitVec 32 := 1#32
  let v186 : BitVec 32 := Scalar.muli v4 c1_i32_104
  let v187 : BitVec 32 := Scalar.addi c0_i32_105 v186
  v187.toNat
def k0_dev9 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_114 : BitVec 32 := 1#32
  let v196 : BitVec 32 := Scalar.muli v6 c1_i32_114
  let v197 : BitVec 32 := Scalar.addi c0_i32_115 v196
  v197.toNat
def k0_dev10 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_124 : BitVec 32 := 1#32
  let v206 : BitVec 32 := Scalar.muli v8 c1_i32_124
  let v207 : BitVec 32 := Scalar.addi c0_i32_125 v206
  v207.toNat
def k0_dev11 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_134 : BitVec 32 := 1#32
  let v216 : BitVec 32 := Scalar.muli v10 c1_i32_134
  let v217 : BitVec 32 := Scalar.addi c0_i32_135 v216
  v217.toNat
def k0_dev12 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_144 : BitVec 32 := 1#32
  let v226 : BitVec 32 := Scalar.muli v12 c1_i32_144
  let v227 : BitVec 32 := Scalar.addi c0_i32_145 v226
  v227.toNat
def k0_dev13 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_154 : BitVec 32 := 1#32
  let v236 : BitVec 32 := Scalar.muli v14 c1_i32_154
  let v237 : BitVec 32 := Scalar.addi c0_i32_155 v236
  v237.toNat
def k0_dev14 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_164 : BitVec 32 := 1#32
  let v246 : BitVec 32 := Scalar.muli v16 c1_i32_164
  let v247 : BitVec 32 := Scalar.addi c0_i32_165 v246
  v247.toNat
def k0_off5 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v267 : Index := Scalar.indexCast v2
  let c1_180 : Index := 1#32
  let c0_181 : Index := 0#32
  let c0_182 : Index := 0#32
  ![v267.toNat, 1, 0, 0]
def k0_off6 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c1_i32_186 : BitVec 32 := 1#32
  ![v4.toNat, 1]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_185 : BitVec 32 := 1#32
  ![v2.toNat, 1]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_184 : BitVec 32 := 1#32
  let c0_i32_189 : BitVec 32 := 0#32
  let c0_i32_190 : BitVec 32 := 0#32
  ![v2.toNat, 1, 0, 0]
def k0_dev15 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_187 : BitVec 32 := 1#32
  let v271 : BitVec 32 := Scalar.muli v4 c1_i32_187
  let v272 : BitVec 32 := Scalar.addi c0_i32_188 v271
  v272.toNat
def k0_dev16 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_197 : BitVec 32 := 1#32
  let v281 : BitVec 32 := Scalar.muli v6 c1_i32_197
  let v282 : BitVec 32 := Scalar.addi c0_i32_198 v281
  v282.toNat
def k0_dev17 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_207 : BitVec 32 := 1#32
  let v291 : BitVec 32 := Scalar.muli v8 c1_i32_207
  let v292 : BitVec 32 := Scalar.addi c0_i32_208 v291
  v292.toNat
def k0_dev18 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_217 : BitVec 32 := 1#32
  let v301 : BitVec 32 := Scalar.muli v10 c1_i32_217
  let v302 : BitVec 32 := Scalar.addi c0_i32_218 v301
  v302.toNat
def k0_dev19 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_227 : BitVec 32 := 1#32
  let v311 : BitVec 32 := Scalar.muli v12 c1_i32_227
  let v312 : BitVec 32 := Scalar.addi c0_i32_228 v311
  v312.toNat
def k0_dev20 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_237 : BitVec 32 := 1#32
  let v321 : BitVec 32 := Scalar.muli v14 c1_i32_237
  let v322 : BitVec 32 := Scalar.addi c0_i32_238 v321
  v322.toNat
def k0_dev21 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_247 : BitVec 32 := 1#32
  let v331 : BitVec 32 := Scalar.muli v16 c1_i32_247
  let v332 : BitVec 32 := Scalar.addi c0_i32_248 v331
  v332.toNat
def k0_off9 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v352 : Index := Scalar.indexCast v2
  let c2_263 : Index := 2#32
  let c0_264 : Index := 0#32
  let c0_265 : Index := 0#32
  ![v352.toNat, 2, 0, 0]
def k0_off10 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c2_i32_269 : BitVec 32 := 2#32
  ![v4.toNat, 2]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_268 : BitVec 32 := 2#32
  ![v2.toNat, 2]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_267 : BitVec 32 := 2#32
  let c0_i32_272 : BitVec 32 := 0#32
  let c0_i32_273 : BitVec 32 := 0#32
  ![v2.toNat, 2, 0, 0]
def k0_dev22 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_270 : BitVec 32 := 1#32
  let v356 : BitVec 32 := Scalar.muli v4 c1_i32_270
  let v357 : BitVec 32 := Scalar.addi c0_i32_271 v356
  v357.toNat
def k0_dev23 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_280 : BitVec 32 := 1#32
  let v366 : BitVec 32 := Scalar.muli v6 c1_i32_280
  let v367 : BitVec 32 := Scalar.addi c0_i32_281 v366
  v367.toNat
def k0_dev24 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_290 : BitVec 32 := 1#32
  let v376 : BitVec 32 := Scalar.muli v8 c1_i32_290
  let v377 : BitVec 32 := Scalar.addi c0_i32_291 v376
  v377.toNat
def k0_dev25 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_300 : BitVec 32 := 1#32
  let v386 : BitVec 32 := Scalar.muli v10 c1_i32_300
  let v387 : BitVec 32 := Scalar.addi c0_i32_301 v386
  v387.toNat
def k0_dev26 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_310 : BitVec 32 := 1#32
  let v396 : BitVec 32 := Scalar.muli v12 c1_i32_310
  let v397 : BitVec 32 := Scalar.addi c0_i32_311 v396
  v397.toNat
def k0_dev27 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_320 : BitVec 32 := 1#32
  let v406 : BitVec 32 := Scalar.muli v14 c1_i32_320
  let v407 : BitVec 32 := Scalar.addi c0_i32_321 v406
  v407.toNat
def k0_dev28 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_330 : BitVec 32 := 1#32
  let v416 : BitVec 32 := Scalar.muli v16 c1_i32_330
  let v417 : BitVec 32 := Scalar.addi c0_i32_331 v416
  v417.toNat
def k0_off13 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v437 : Index := Scalar.indexCast v2
  let c3_346 : Index := 3#32
  let c0_347 : Index := 0#32
  let c0_348 : Index := 0#32
  ![v437.toNat, 3, 0, 0]
def k0_off14 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c3_i32_352 : BitVec 32 := 3#32
  ![v4.toNat, 3]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_351 : BitVec 32 := 3#32
  ![v2.toNat, 3]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_350 : BitVec 32 := 3#32
  let c0_i32_355 : BitVec 32 := 0#32
  let c0_i32_356 : BitVec 32 := 0#32
  ![v2.toNat, 3, 0, 0]
def k0_dev29 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_353 : BitVec 32 := 1#32
  let v441 : BitVec 32 := Scalar.muli v4 c1_i32_353
  let v442 : BitVec 32 := Scalar.addi c0_i32_354 v441
  v442.toNat
def k0_dev30 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_363 : BitVec 32 := 1#32
  let v451 : BitVec 32 := Scalar.muli v6 c1_i32_363
  let v452 : BitVec 32 := Scalar.addi c0_i32_364 v451
  v452.toNat
def k0_dev31 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_373 : BitVec 32 := 1#32
  let v461 : BitVec 32 := Scalar.muli v8 c1_i32_373
  let v462 : BitVec 32 := Scalar.addi c0_i32_374 v461
  v462.toNat
def k0_dev32 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_383 : BitVec 32 := 1#32
  let v471 : BitVec 32 := Scalar.muli v10 c1_i32_383
  let v472 : BitVec 32 := Scalar.addi c0_i32_384 v471
  v472.toNat
def k0_dev33 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_393 : BitVec 32 := 1#32
  let v481 : BitVec 32 := Scalar.muli v12 c1_i32_393
  let v482 : BitVec 32 := Scalar.addi c0_i32_394 v481
  v482.toNat
def k0_dev34 (d0 : Dev nD) : Nat :=
  let c0_i32_404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_403 : BitVec 32 := 1#32
  let v491 : BitVec 32 := Scalar.muli v14 c1_i32_403
  let v492 : BitVec 32 := Scalar.addi c0_i32_404 v491
  v492.toNat
def k0_dev35 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_413 : BitVec 32 := 1#32
  let v501 : BitVec 32 := Scalar.muli v16 c1_i32_413
  let v502 : BitVec 32 := Scalar.addi c0_i32_414 v501
  v502.toNat
def k0_off17 (d0 : Dev nD) (c1_i32_0 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c0_i32_435 : BitVec 32 := 0#32
  let c0_i32_440 : BitVec 32 := 0#32
  let c0_i32_441 : BitVec 32 := 0#32
  ![v4.toNat, 0, 0, 0]
def k0_off18 (d0 : Dev nD) (c1_i32_0 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c1_i32_445 : BitVec 32 := 1#32
  let c0_i32_450 : BitVec 32 := 0#32
  let c0_i32_451 : BitVec 32 := 0#32
  ![v4.toNat, 1, 0, 0]
def k0_off19 (d0 : Dev nD) (c1_i32_0 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c2_i32_455 : BitVec 32 := 2#32
  let c0_i32_460 : BitVec 32 := 0#32
  let c0_i32_461 : BitVec 32 := 0#32
  ![v4.toNat, 2, 0, 0]
def k0_off20 (d0 : Dev nD) (c1_i32_0 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c3_i32_465 : BitVec 32 := 3#32
  let c0_i32_470 : BitVec 32 := 0#32
  let c0_i32_471 : BitVec 32 := 0#32
  ![v4.toNat, 3, 0, 0]
def k0_dev36 (d0 : Dev nD) : Nat :=
  let c0_i32_1095_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1094_r0 : BitVec 32 := 1#32
  let v1026_r0 : BitVec 32 := Scalar.muli v4 c1_i32_1094_r0
  let v1027_r0 : BitVec 32 := Scalar.addi c0_i32_1095_r0 v1026_r0
  v1027_r0.toNat
def k0_dev37 (d0 : Dev nD) : Nat :=
  let c0_i32_1098_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_1097_r0 : BitVec 32 := 1#32
  let v1028_r0 : BitVec 32 := Scalar.muli v6 c1_i32_1097_r0
  let v1029_r0 : BitVec 32 := Scalar.addi c0_i32_1098_r0 v1028_r0
  v1029_r0.toNat
def k0_dev38 (d0 : Dev nD) : Nat :=
  let c0_i32_1101_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_1100_r0 : BitVec 32 := 1#32
  let v1030_r0 : BitVec 32 := Scalar.muli v8 c1_i32_1100_r0
  let v1031_r0 : BitVec 32 := Scalar.addi c0_i32_1101_r0 v1030_r0
  v1031_r0.toNat
def k0_dev39 (d0 : Dev nD) : Nat :=
  let c0_i32_1104_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_1103_r0 : BitVec 32 := 1#32
  let v1032_r0 : BitVec 32 := Scalar.muli v10 c1_i32_1103_r0
  let v1033_r0 : BitVec 32 := Scalar.addi c0_i32_1104_r0 v1032_r0
  v1033_r0.toNat
def k0_dev40 (d0 : Dev nD) : Nat :=
  let c0_i32_1107_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_1106_r0 : BitVec 32 := 1#32
  let v1034_r0 : BitVec 32 := Scalar.muli v12 c1_i32_1106_r0
  let v1035_r0 : BitVec 32 := Scalar.addi c0_i32_1107_r0 v1034_r0
  v1035_r0.toNat
def k0_dev41 (d0 : Dev nD) : Nat :=
  let c0_i32_1110_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_1109_r0 : BitVec 32 := 1#32
  let v1036_r0 : BitVec 32 := Scalar.muli v14 c1_i32_1109_r0
  let v1037_r0 : BitVec 32 := Scalar.addi c0_i32_1110_r0 v1036_r0
  v1037_r0.toNat
def k0_dev42 (d0 : Dev nD) : Nat :=
  let c0_i32_1113_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_1112_r0 : BitVec 32 := 1#32
  let v1038_r0 : BitVec 32 := Scalar.muli v16 c1_i32_1112_r0
  let v1039_r0 : BitVec 32 := Scalar.addi c0_i32_1113_r0 v1038_r0
  v1039_r0.toNat
abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩
abbrev S512x32 : Shape := ⟨2, ![512, 32]⟩
abbrev S1024x1 : Shape := ⟨2, ![1024, 1]⟩
abbrev S32x512x1024 : Shape := ⟨3, ![32, 512, 1024]⟩
abbrev S32 : Shape := ⟨1, ![32]⟩
abbrev S1x32 : Shape := ⟨2, ![1, 32]⟩
abbrev S1024x32 : Shape := ⟨2, ![1024, 32]⟩
abbrev S_ : Shape := ⟨0, ![]⟩
abbrev S1024x32x1024 : Shape := ⟨3, ![1024, 32, 1024]⟩
abbrev S1024x32x1 : Shape := ⟨3, ![1024, 32, 1]⟩
abbrev S1024x1024 : Shape := ⟨2, ![1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x1, .i32⟩
  | .hbm, ⟨3, _⟩ => ⟨S32x512x1024, .f32⟩
  | .hbm, ⟨4, _⟩ => ⟨S32, .i32⟩
  | .hbm, ⟨5, _⟩ => ⟨S1x32, .i32⟩
  | .hbm, ⟨6, _⟩ => ⟨S1024x32, .i32⟩
  | .hbm, ⟨7, _⟩ => ⟨S1024x32, .i32⟩
  | .hbm, ⟨8, _⟩ => ⟨S1024x32, .i1⟩
  | .hbm, ⟨9, _⟩ => ⟨S1024x32, .i32⟩
  | .hbm, ⟨10, _⟩ => ⟨S_, .i32⟩
  | .hbm, ⟨11, _⟩ => ⟨S_, .i32⟩
  | .hbm, ⟨12, _⟩ => ⟨S1024x32, .i32⟩
  | .hbm, ⟨13, _⟩ => ⟨S_, .i32⟩
  | .hbm, ⟨14, _⟩ => ⟨S1024x32, .i32⟩
  | .hbm, ⟨15, _⟩ => ⟨S1024x32, .i1⟩
  | .hbm, ⟨16, _⟩ => ⟨S1024x32, .i1⟩
  | .hbm, ⟨17, _⟩ => ⟨S1024x32x1024, .f32⟩
  | .hbm, ⟨18, _⟩ => ⟨S1024x32x1, .i1⟩
  | .hbm, ⟨19, _⟩ => ⟨S_, .f32⟩
  | .hbm, ⟨20, _⟩ => ⟨S_, .f32⟩
  | .hbm, ⟨21, _⟩ => ⟨S1024x32x1024, .i1⟩
  | .hbm, ⟨22, _⟩ => ⟨S1024x32x1024, .f32⟩
  | .hbm, ⟨23, _⟩ => ⟨S1024x32x1024, .f32⟩
  | .hbm, ⟨24, _⟩ => ⟨S_, .f32⟩
  | .hbm, ⟨25, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Slots.lean ====
/-
# The buffers the devices exchange, piece by piece

The exchange buffer of a device is an array of 8 × 4 slots, one for each device and each of a device's four experts;
a slot holds 25 rows of 1024 numbers. The weight buffer is an array of four slices, one for each expert of the device.
This module names the slots and the slices as sets of elements, shows that the program's slices of the two buffers are
these sets, that they are pairwise disjoint and cover the buffers, and states the index arithmetic of the devices.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.Moe

open Cert.KernelIdeal Cert.KernelIdeal.Gen

open Idealize.ShloMosaic
open Idealize.ShloMosaic.TcCoe

variable {F : FTy → Type} [FloatOps F]

/-! ## The other devices, in the order every device visits them -/

/-- The device `r + 1` places after `c` around the eight devices. -/
def pd (c : Dev nD) (r : Fin 7) : Dev nD := ⟨(c.val + r.val + 1) % 8, Nat.mod_lt _ (by decide)⟩

theorem pd_ne (c : Dev nD) (r : Fin 7) : pd c r ≠ c := by revert c r; decide
theorem pd_inj (c : Dev nD) : Function.Injective (pd c) := by revert c; decide
theorem pd_surj (c d : Dev nD) (h : d ≠ c) : ∃ r, pd c r = d := by revert c d; decide

/-- A device named by the remainder of its number plus `r + 1`. -/
theorem eq_pd {c n : Dev nD} (r : Fin 7) (h : n.val = (c.val + (r.val + 1)) % 8) : n = pd c r := by
  apply Fin.ext; show _ = (c.val + r.val + 1) % 8; omega

/-! ## Positions in a sequence of steps -/

/-- The steps not yet taken when `n` of the `k` steps are done. -/
def still (k n : ℕ) : Finset (Fin k) := Finset.univ.filter fun i => n ≤ i.val
/-- The steps taken when `n` of the `k` steps are done. -/
def taken (k n : ℕ) : Finset (Fin k) := Finset.univ.filter fun i => i.val < n

theorem still_zero (k : ℕ) : still k 0 = Finset.univ := by ext i; simp [still]
theorem still_all (k : ℕ) : still k k = ∅ := by ext i; simp [still]
theorem taken_zero (k : ℕ) : taken k 0 = ∅ := by ext i; simp [taken]
theorem taken_all (k : ℕ) : taken k k = Finset.univ := by ext i; simp [taken]
theorem still_step {k : ℕ} (i : Fin k) : still k i.val = insert i (still k (i.val + 1)) := by
  ext x; simp only [still, Finset.mem_filter, Finset.mem_univ, true_and, Finset.mem_insert, Fin.ext_iff]; omega
theorem notMem_still {k : ℕ} (i : Fin k) : i ∉ still k (i.val + 1) := by
  simp [still]
theorem taken_step {k : ℕ} (i : Fin k) : taken k (i.val + 1) = insert i (taken k i.val) := by
  ext x; simp only [taken, Finset.mem_filter, Finset.mem_univ, true_and, Finset.mem_insert, Fin.ext_iff]; omega
theorem notMem_taken {k : ℕ} (i : Fin k) : i ∉ taken k i.val := by simp [taken]

/-- Step `i` of the 28 sends: the expert, -/
def jS (i : Fin 28) : Fin 4 := ⟨i.val / 7, by omega⟩
/-- and which of the other devices. -/
def rS (i : Fin 28) : Fin 7 := ⟨i.val % 7, by omega⟩
/-- Step `i` of the 28 receive waits, and of the 28 send waits: which of the other devices, -/
def rW (i : Fin 28) : Fin 7 := ⟨i.val / 4, by omega⟩
/-- and the expert. -/
def jW (i : Fin 28) : Fin 4 := ⟨i.val % 4, by omega⟩

/-- Sends in the order of the program, as pairs. -/
def sendOrd : Fin 28 ≃ Fin 7 × Fin 4 where
  toFun i := (rS i, jS i)
  invFun p := ⟨7 * p.2.val + p.1.val, by omega⟩
  left_inv i := by apply Fin.ext; simp only [rS, jS]; omega
  right_inv p := by apply Prod.ext <;> apply Fin.ext <;> simp only [rS, jS] <;> omega

/-- Waits in the order of the program, as pairs. -/
def waitOrd : Fin 28 ≃ Fin 7 × Fin 4 where
  toFun i := (rW i, jW i)
  invFun p := ⟨4 * p.1.val + p.2.val, by omega⟩
  left_inv i := by apply Fin.ext; simp only [rW, jW]; omega
  right_inv p := by apply Prod.ext <;> apply Fin.ext <;> simp only [rW, jW] <;> omega

/-! ## The exchange buffer -/

abbrev commM : Memref sig .tc .vmem S8x4x25x1024 .bf16 := Memref.whole cc0_scratch2
abbrev wM : Memref sig .tc .vmem S4x512x1024 .f32 := Memref.whole cc0_scratch1
abbrev xM : Memref sig .tc .vmem S1024x512 .f32 := Memref.whole cc0_scratch0
abbrev wH : Memref sig .tc .hbm S4x512x1024 .f32 := Memref.whole main_arg3
abbrev xH : Memref sig .tc .hbm S1024x512 .f32 := Memref.whole main_arg0

/-- The elements of slot `(s, j)` of the exchange buffer. -/
def slotSet (s : Dev nD) (j : Fin 4) : Finset S8x4x25x1024.Idx :=
  Finset.univ.filter fun i => (i 0).val = s.val ∧ (i 1).val = j.val

theorem mem_slotSet {s : Dev nD} {j : Fin 4} {i : S8x4x25x1024.Idx} :
    i ∈ slotSet s j ↔ (i 0).val = s.val ∧ (i 1).val = j.val := by simp [slotSet]

theorem slot_disjoint (p p' : Dev nD × Fin 4) (h : p ≠ p') : Disjoint (slotSet p.1 p.2) (slotSet p'.1 p'.2) := by
  rw [Finset.disjoint_left]
  intro i hi hi'
  rw [mem_slotSet] at hi hi'
  exact h (Prod.ext (Fin.ext (hi.1.symm.trans hi'.1)) (Fin.ext (hi.2.symm.trans hi'.2)))

theorem slot_cover : (Finset.univ : Finset (Dev nD × Fin 4)).biUnion (fun p => slotSet p.1 p.2) = Finset.univ := by
  ext i
  simp only [Finset.mem_biUnion, Finset.mem_univ, true_and, iff_true]
  exact ⟨(⟨(i 0).val, (i 0).isLt⟩, ⟨(i 1).val, (i 1).isLt⟩), mem_slotSet.mpr ⟨rfl, rfl⟩⟩

/-- The elements of a rectangle of one slot's size at offset `(s, j, 0, 0)` are the slot's. -/
theorem rect_slot {s : Dev nD} {j : Fin 4} {off : Fin 4 → ℕ} (ho : off = ![s.val, j.val, 0, 0])
    (h : ∀ a, off a + S1x1x25x1024.size a ≤ S8x4x25x1024.size a) :
    (Rect.unit (s := S8x4x25x1024) off S1x1x25x1024.size h).set = slotSet s j := by
  subst ho
  ext i
  rw [Rect.mem_set_unit, mem_slotSet]
  have h2 : (i 2).val < 25 := (i 2).isLt
  have h3 : (i 3).val < 1024 := (i 3).isLt
  constructor
  · intro hh
    have h0 := hh 0
    have h1 := hh 1
    simp only [Matrix.cons_val_zero, Matrix.cons_val_one, Matrix.cons_val] at h0 h1
    constructor
    · have := h0.2; change _ < s.val + 1 at this; omega
    · have := h1.2; change _ < j.val + 1 at this; omega
  · rintro ⟨e0, e1⟩ a
    fin_cases a
    · change s.val ≤ (i 0).val ∧ (i 0).val < s.val + 1; omega
    · change j.val ≤ (i 1).val ∧ (i 1).val < j.val + 1; omega
    · change 0 ≤ (i 2).val ∧ (i 2).val < 0 + 25; omega
    · change 0 ≤ (i 3).val ∧ (i 3).val < 0 + 1024; omega

/-- The program's view of a slot has the slot's elements. -/
theorem view_slot {s : Dev nD} {j : Fin 4} {off : Fin 4 → ℕ} (ho : off = ![s.val, j.val, 0, 0])
    (h : ∀ a, off a + S1x1x25x1024.size a ≤ S8x4x25x1024.size a)
    (hs : ∀ a, (Rect.unit (s := S8x4x25x1024) off S1x1x25x1024.size h).stride a = 1)
    (hq : (Rect.unit (s := S8x4x25x1024) off S1x1x25x1024.size h).shape.Squeezes S25x1024) :
    ((commM.slice (Rect.unit (s := S8x4x25x1024) off S1x1x25x1024.size h) hs).squeeze S25x1024 hq).view.set = slotSet s j := by
  refine (View.set_reshape _ _).trans ?_
  exact (View.set_slice_whole _ _).trans (rect_slot ho h)

/-! ## The weight buffer and the weight array -/

/-- The elements of slice `j` of the weights. -/
def sliceSet (j : Fin 4) : Finset S4x512x1024.Idx := Finset.univ.filter fun i => (i 0).val = j.val

theorem mem_sliceSet {j : Fin 4} {i : S4x512x1024.Idx} : i ∈ sliceSet j ↔ (i 0).val = j.val := by simp [sliceSet]

theorem slice_disjoint (j j' : Fin 4) (h : j ≠ j') : Disjoint (sliceSet j) (sliceSet j') := by
  rw [Finset.disjoint_left]
  intro i hi hi'
  rw [mem_sliceSet] at hi hi'
  exact h (Fin.ext (hi.symm.trans hi'))

theorem slice_cover : (Finset.univ : Finset (Fin 4)).biUnion sliceSet = Finset.univ := by
  ext i
  simp only [Finset.mem_biUnion, Finset.mem_univ, true_and, iff_true]
  exact ⟨⟨(i 0).val, (i 0).isLt⟩, mem_sliceSet.mpr rfl⟩

theorem rect_slice {j : Fin 4} {off : Fin 3 → ℕ} (ho : off = ![j.val, 0, 0])
    (h : ∀ a, off a + S1x512x1024.size a ≤ S4x512x1024.size a) :
    (Rect.unit (s := S4x512x1024) off S1x512x1024.size h).set = sliceSet j := by
  subst ho
  ext i
  rw [Rect.mem_set_unit, mem_sliceSet]
  have h1 : (i 1).val < 512 := (i 1).isLt
  have h2 : (i 2).val < 1024 := (i 2).isLt
  constructor
  · intro hh
    have h0 := hh 0
    simp only [Matrix.cons_val_zero] at h0
    have := h0.2; change _ < j.val + 1 at this; omega
  · rintro e0 a
    fin_cases a
    · change j.val ≤ (i 0).val ∧ (i 0).val < j.val + 1; omega
    · change 0 ≤ (i 1).val ∧ (i 1).val < 0 + 512; omega
    · change 0 ≤ (i 2).val ∧ (i 2).val < 0 + 1024; omega

/-- The program's view of a weight slice, of the array and of the buffer alike, has the slice's elements. -/
theorem view_slice {sp : Space} (M : Memref sig .tc sp S4x512x1024 .f32) {j : Fin 4} {off : Fin 3 → ℕ} (ho : off = ![j.val, 0, 0])
    (h : ∀ a, off a + S1x512x1024.size a ≤ S4x512x1024.size a)
    (hs : ∀ a, (Rect.unit (s := S4x512x1024) off S1x512x1024.size h).stride a = 1)
    (hq : (Rect.unit (s := S4x512x1024) off S1x512x1024.size h).shape.Squeezes S512x1024) :
    ((M.slice (Rect.unit (s := S4x512x1024) off S1x512x1024.size h) hs).squeeze S512x1024 hq).view.set
      = (sliceSet j).map M.view.emb := by
  refine (View.set_reshape _ _).trans ?_
  exact (View.set_slice _ _).trans (by rw [rect_slice ho h])

/-- Writing back what was read leaves every element of the view as it was read. -/
theorem write_read_on {sp : Space} {s : Shape} {e : EltTy} {Val : EltTy → Type} (v : View sig .tc sp s e) (f g : v.ty.Contents Val)
    {i : v.ty.Idx} (hi : i ∈ v.set) : v.write Val f (v.read Val g) Finset.univ i = g i := by
  rw [View.write_read_eq_piecewise]
  exact Finset.piecewise_eq_of_mem _ _ _ hi

end Cert.Moe

end
-- ==== Proof.Protocol.lean ====
/-
# What the eight devices promise each other

Every semaphore of a device is a cell. The module names the cells, says what the buffers hold when a cell's count is
complete, and writes the exchange as a one-round schedule over the cells:

* the barrier cell of device `c` gets one unit from every other device `d`, which hands over the four slots `(c, ·)`
  of its own exchange buffer;
* the cells of the copies of `x` and of the four weight slices get the copy's credit from `c` itself;
* the receive cell `(s, j)` of device `c` gets a slot's credit from device `s`, with the slot holding the block that
  device `s` computed for its expert `j`;
* the send cell `(t, j)` of device `c` gets the same credit from `c`'s own transfer to `t`, with the share of the slot lent to it;
* the exit cell gets one unit from every other device, with nothing.

A wait on a cell is allowed while only cells of a higher level are owed: copies and sends lowest, then the barrier,
then the receive cells, then the exit cell.
-/
module

public import proofs.«01_k».proof.Proof.Slots
public import Idealize.ShloMosaic.Lib.Pipeline.ValueKit.Geometry

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTok)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ) (ρ : Dev nD → PrngReg)

/-! ## The cells of a device -/

/-- A device's cells: barrier, exit and the copy of `x`; the four weight copies; the sends to device `t` of expert `j`;
    the receipts from device `s` of expert `j`. -/
abbrev CK : Type := Fin 3 ⊕ (Fin 4 ⊕ ((Dev nD × Fin 4) ⊕ (Dev nD × Fin 4)))
abbrev kBar : CK := .inl 0
abbrev kExit : CK := .inl 1
abbrev kX : CK := .inl 2
abbrev kW (j : Fin 4) : CK := .inr (.inl j)
abbrev kSend (t : Dev nD) (j : Fin 4) : CK := .inr (.inr (.inl (t, j)))
abbrev kRecv (s : Dev nD) (j : Fin 4) : CK := .inr (.inr (.inr (s, j)))

def barS : Sem sig := ⟨0, by decide⟩
def exitS : Sem sig := ⟨1, by decide⟩
def xS : DmaSem sig := ⟨2, by decide⟩
def wS (j : Fin 4) : DmaSem sig := ⟨3 + j.val, by have := j.isLt; show 3 + j.val < 71; omega⟩
def sendS (t : Dev nD) (j : Fin 4) : DmaSem sig :=
  ⟨7 + 4 * t.val + j.val, by have h : t.val < 8 := t.isLt; have := j.isLt; show 7 + 4 * t.val + j.val < 71; omega⟩
def recvS (s : Dev nD) (j : Fin 4) : DmaSem sig :=
  ⟨39 + 4 * s.val + j.val, by have h : s.val < 8 := s.isLt; have := j.isLt; show 39 + 4 * s.val + j.val < 71; omega⟩

/-- The semaphore of a cell. -/
def semOf : CK → SemLoc sig
  | .inl 0 => .reg barS
  | .inl 1 => .reg exitS
  | .inl 2 => .dma xS
  | .inr (.inl j) => .dma (wS j)
  | .inr (.inr (.inl p)) => .dma (sendS p.1 p.2)
  | .inr (.inr (.inr p)) => .dma (recvS p.1 p.2)

/-- Which cell a semaphore is, if it is one of the kernel's own. -/
def kindOf : SemLoc sig → Option CK
  | .reg s => if s.val = 0 then some kBar else some kExit
  | .dma s =>
    if s.val = 2 then some kX
    else if 3 ≤ s.val ∧ s.val < 7 then some (kW ⟨(s.val - 3) % 4, Nat.mod_lt _ (by decide)⟩)
    else if 7 ≤ s.val ∧ s.val < 39 then some (kSend ⟨(s.val - 7) / 4 % 8, Nat.mod_lt _ (by decide)⟩ ⟨(s.val - 7) % 4, Nat.mod_lt _ (by decide)⟩)
    else if 39 ≤ s.val then some (kRecv ⟨(s.val - 39) / 4 % 8, Nat.mod_lt _ (by decide)⟩ ⟨(s.val - 39) % 4, Nat.mod_lt _ (by decide)⟩)
    else none

theorem kindOf_semOf (k : CK) : kindOf (semOf k) = some k := by
  rcases k with k | j | ⟨t, j⟩ | ⟨s, j⟩
  · revert k; decide
  · revert j; decide
  · revert t j; decide
  · revert s j; decide

theorem semOf_injective : Function.Injective semOf := fun a b h =>
  Option.some.inj (by rw [← kindOf_semOf a, ← kindOf_semOf b, h])

abbrev cell (c : Dev nD) (k : CK) : GSem nD τ sig := ((c : Thread nD τ), semOf k)

theorem cell_injective : Function.Injective (fun p : Dev nD × CK => cell p.1 p.2) := by
  rintro ⟨c, k⟩ ⟨c', k'⟩ h
  have h1 : c = c' := congrArg (fun g : GSem nD τ sig => g.1.1) h
  have h2 : k = k' := semOf_injective (congrArg Prod.snd h)
  rw [h1, h2]

theorem cell_eq_iff {c c' : Dev nD} {k k' : CK} : Iff (cell c k = cell c' k') (c = c' ∧ k = k') :=
  ⟨fun h => by have := cell_injective (a₁ := (c, k)) (a₂ := (c', k')) h; exact ⟨congrArg Prod.fst this, congrArg Prod.snd this⟩,
   fun h => by rw [h.1, h.2]⟩

/-- The row-major place of an element of a rectangle of one element at offset `(t, j)` of an 8 × 4 array; -/
theorem place84 {t : Dev nD} {j : Fin 4} {off : Fin 2 → ℕ} (ho : off = ![t.val, j.val])
    (h : ∀ a, off a + S1x1.size a ≤ S8x4.size a) (p : S1x1.Idx) :
    (S8x4.rowMajor ((Rect.unit (s := S8x4) off S1x1.size h).emb p)).val = 4 * t.val + j.val := by
  subst ho
  rw [Shape.rowMajor_val_two, ValueKit.rect_emb_unit_val, ValueKit.rect_emb_unit_val]
  have h0 : (p 0).val < 1 := (p 0).isLt
  have h1 : (p 1).val < 1 := (p 1).isLt
  show (t.val + (p 0).val) * 4 + (j.val + (p 1).val) = _
  omega
/-- of one at offset `j` of an array of four. -/
theorem place4 {j : Fin 4} {off : Fin 1 → ℕ} (ho : off = ![j.val])
    (h : ∀ a, off a + S1.size a ≤ S4.size a) (p : S1.Idx) :
    (S4.rowMajor ((Rect.unit (s := S4) off S1.size h).emb p)).val = j.val := by
  subst ho
  rw [Shape.rowMajor_val_one, ValueKit.rect_emb_unit_val]
  have h0 : (p 0).val < 1 := (p 0).isLt
  show j.val + (p 0).val = _
  omega

/-- The program's semaphore for a send to `t` of expert `j`, -/
theorem send_sem {t : Dev nD} {j : Fin 4} {off : Fin 2 → ℕ} (ho : off = ![t.val, j.val])
    (h : ∀ a, off a + S1x1.size a ≤ S8x4.size a) :
    ((cc0_scratch5.slice (Rect.unit (s := S8x4) off S1x1.size h)).squeeze S_ squeezes_S1x1_S_).sem = sendS t j := by
  apply Fin.ext
  exact (congrArg (7 + ·) (place84 ho h _)).trans (Nat.add_assoc _ _ _).symm

/-- for a receipt, -/
theorem recv_sem {t : Dev nD} {j : Fin 4} {off : Fin 2 → ℕ} (ho : off = ![t.val, j.val])
    (h : ∀ a, off a + S1x1.size a ≤ S8x4.size a) :
    ((cc0_scratch6.slice (Rect.unit (s := S8x4) off S1x1.size h)).squeeze S_ squeezes_S1x1_S_).sem = recvS t j := by
  apply Fin.ext
  exact (congrArg (39 + ·) (place84 ho h _)).trans (Nat.add_assoc _ _ _).symm

/-- for the copy of a weight slice, -/
theorem w_sem {j : Fin 4} {off : Fin 1 → ℕ} (ho : off = ![j.val])
    (h : ∀ a, off a + S1.size a ≤ S4.size a) :
    ((cc0_scratch4.slice (Rect.unit (s := S4) off S1.size h)).squeeze S_ squeezes_S1_S_).sem = wS j := by
  apply Fin.ext
  exact congrArg (3 + ·) (place4 ho h _)

theorem rowMajor_unit (p : S_.Idx) : (S_.rowMajor p).val = 0 := by
  have : (S_.rowMajor p).val < 1 := (S_.rowMajor p).isLt
  omega
/-- for the copy of `x`, -/
theorem x_sem : cc0_scratch3.sem = xS := Fin.ext (congrArg (2 + ·) (rowMajor_unit _))
/-- of the exit, -/
theorem exit_sem : cc0_scoped0.sem = exitS := Fin.ext (congrArg (1 + ·) (rowMajor_unit _))
/-- and of the barrier. -/
theorem bar_sem : (SemArray.scalar (sig.barrier 0 rfl) : Sems sig S_).sem = barS := rfl

/-! ## Credits -/

def slotM (off : Fin 4 → ℕ) (h : ∀ a, off a + S1x1x25x1024.size a ≤ S8x4x25x1024.size a) : Memref sig .tc .vmem S25x1024 .bf16 :=
  (commM.slice (Rect.unit (s := S8x4x25x1024) off S1x1x25x1024.size h) (fun _ => rfl)).squeeze S25x1024 squeezes_S1x1x25x1024_S25x1024

def Ns : ℕ := (slotM ![0, 0, 0, 0] inb_S8x4x25x1024_S1x1x25x1024_0_0_0_0).view.dmaCredit
def Nx : ℕ := xM.view.dmaCredit
def Nw : ℕ := ((wM.slice (Rect.unit (s := S4x512x1024) ![0, 0, 0] S1x512x1024.size inb_S4x512x1024_S1x512x1024_0_0_0) (fun _ => rfl)).squeeze S512x1024
  squeezes_S1x512x1024_S512x1024).view.dmaCredit
theorem Ns_pos : 0 < Ns := View.dmaCredit_pos _ (by decide)
theorem Nx_pos : 0 < Nx := View.dmaCredit_pos _ (by decide)
theorem Nw_pos : 0 < Nw := View.dmaCredit_pos _ (by decide)

/-! ## Contents -/

/-- Device `c`'s tokens, -/
def xv (c : Dev nD) : Buf (Elt F) ((c : Thread nD τ).loc cc0_scratch0) := m ((c : Thread nD τ).loc main_arg0)
/-- the expert of every token, as staged, -/
def idxv (c : Dev nD) : (cc0_stg0_0 : Ref sig .tc).ty.Contents (Elt F) := (win0_0.blk (0 : Fin 1)).view.read (Elt F) (m ((c : Thread nD τ).loc main_arg2))
/-- and the device's weights. -/
def wBuf (c : Dev nD) : Buf (Elt F) ((c : Thread nD τ).loc cc0_scratch1) := m ((c : Thread nD τ).loc main_arg3)

theorem slice_inb (j : Fin 4) : ∀ a, (![j.val, 0, 0] : Fin 3 → ℕ) a + S1x512x1024.size a ≤ S4x512x1024.size a := by
  revert j; decide
theorem slot_inb (s : Dev nD) (j : Fin 4) : ∀ a, (![s.val, j.val, 0, 0] : Fin 4 → ℕ) a + S1x1x25x1024.size a ≤ S8x4x25x1024.size a := by
  revert s j; decide

abbrev slotR (s : Dev nD) (j : Fin 4) : Rect S8x4x25x1024 := Rect.unit (s := S8x4x25x1024) ![s.val, j.val, 0, 0] S1x1x25x1024.size (slot_inb s j)
abbrev sliceR (j : Fin 4) : Rect S4x512x1024 := Rect.unit (s := S4x512x1024) ![j.val, 0, 0] S1x512x1024.size (slice_inb j)

/-- The slots the tokens take: token by expert, the token's place in its expert's queue, or zero. -/
def slotW (c : Dev nD) : FVec F S1024x32 .bf16 := k0_pay4 (k0_pay1 (idxv m c)) (k0_pay2 (idxv m c)) (k0_pay3 (idxv m c))
/-- The device's number as the kernel computes with it. -/
def word (c : Dev nD) : BitVec 32 := Scalar.remsi (Scalar.divsi (Dev.word c) 1#32) 8#32
/-- Row numbers of the 32 × 100 selection. -/
abbrev rows100 : IVec S32x100 32 := iota .tc S32x100 32 [0] iota_S32x100_d0_w32
/-- The rows the device's four experts are fed. -/
def cx (c : Dev nD) : FVec F S100x512 .f32 := k0_pay7 (slotW m c) rows100 k0_pay5 (k0_pay6 (word c)) (xv m c)
def cx0 (c : Dev nD) : FVec F S25x512 .f32 := k0_pay8 (slotW m c) rows100 k0_pay5 (k0_pay6 (word c)) (xv m c)
/-- The weights of the device's expert `j`. -/
def wv (c : Dev nD) (j : Fin 4) : Vec F S1x512x1024 .f32 := wM.view.readAt (Elt F) (sliceR j).toLoadRect (wBuf m c)
/-- What device `c` computes for its expert `j`, as stored. -/
def blk (c : Dev nD) (j : Fin 4) : FVec F S1x1x25x1024 .bf16 := match j with
  | 0 => k0_pay9 (cx0 m c) (wv m c 0)
  | 1 => k0_pay11 (k0_pay10 (cx m c)) (wv m c 1)
  | 2 => k0_pay13 (k0_pay12 (cx m c)) (wv m c 2)
  | 3 => k0_pay16 (k0_pay14 (cx m c)) (k0_pay15 (wv m c 3)) (constant S25x1024 .f32 0x00000000#32)

/-- A position of a slot. -/
def posIn (a : Fin 25) (b : Fin 1024) : S1x1x25x1024.Idx := fun
  | ⟨0, _⟩ => (⟨0, by decide⟩ : Fin 1)
  | ⟨1, _⟩ => (⟨0, by decide⟩ : Fin 1)
  | ⟨2, _⟩ => a
  | ⟨3, _⟩ => b

/-- The exchange buffer when every device's blocks are in: the same on every device. -/
def commV : S8x4x25x1024.Idx → Elt F .bf16 := fun i => blk m (i 0) (i 1) (posIn (i 2) (i 3))

/-- What a load of slot `(s, j)` then reads. -/
theorem readAt_commV (s : Dev nD) (j : Fin 4) : commM.view.readAt (Elt F) (slotR s j).toLoadRect (commV m) = blk m s j := by
  funext p
  rw [View.readAt_apply]
  show commV m ((slotR s j).emb p) = _
  have e0 : (slotR s j).emb p 0 = s := by
    apply Fin.ext; rw [ValueKit.rect_emb_unit_val]
    have h0 : (p 0).val < 1 := (p 0).isLt
    show s.val + (p 0).val = s.val; omega
  have e1 : (slotR s j).emb p 1 = j := by
    apply Fin.ext; rw [ValueKit.rect_emb_unit_val]
    have h0 : (p 1).val < 1 := (p 1).isLt
    show j.val + (p 1).val = j.val; omega
  have e2 : (slotR s j).emb p 2 = p 2 := by
    apply Fin.ext; rw [ValueKit.rect_emb_unit_val]; show 0 + (p 2).val = (p 2).val; omega
  have e3 : (slotR s j).emb p 3 = p 3 := by
    apply Fin.ext; rw [ValueKit.rect_emb_unit_val]; show 0 + (p 3).val = (p 3).val; omega
  unfold commV
  rw [e0, e1, e2, e3]
  congr 1
  funext a
  have h0 : (p 0).val < 1 := (p 0).isLt
  have h1 : (p 1).val < 1 := (p 1).isLt
  fin_cases a
  · apply Fin.ext; show 0 = (p 0).val; omega
  · apply Fin.ext; show 0 = (p 1).val; omega
  · rfl
  · rfl

/-- Slot `(s, j)` of device `c`'s exchange buffer, owned at share `q` with contents `f`. -/
def slotPt (c s : Dev nD) (j : Fin 4) (q : PosShare TreeShare) (f : S8x4x25x1024.Idx → Elt F .bf16) : sProp 𝕄 :=
  ((c : Thread nD τ).loc cc0_scratch2) ↦[slotSet s j]{q} (f : Buf (Elt F) ((c : Thread nD τ).loc cc0_scratch2))
/-- Slice `j` of the weight buffer, with the device's weights; -/
def wPt (c : Dev nD) (j : Fin 4) : sProp 𝕄 := ((c : Thread nD τ).loc cc0_scratch1) ↦[sliceSet j]{fullShare} wBuf m c
/-- slice `j` of the weight array. -/
def wHPt (c : Dev nD) (j : Fin 4) : sProp 𝕄 := ((c : Thread nD τ).loc main_arg3) ↦[sliceSet j]{fullShare} m ((c : Thread nD τ).loc main_arg3)
/-- The token buffer, with the device's tokens; -/
def xPt (c : Dev nD) : sProp 𝕄 := ((c : Thread nD τ).loc cc0_scratch0) ↦{fullShare} xv m c
/-- the token array. -/
def xHPt (c : Dev nD) : sProp 𝕄 := ((c : Thread nD τ).loc main_arg0) ↦{fullShare} m ((c : Thread nD τ).loc main_arg0)
/-- The four slots `(c, ·)` of device `d`'s exchange buffer, with any contents. -/
def landing (d c : Dev nD) : sProp 𝕄 := bigSep Finset.univ fun j : Fin 4 => iprop(∃ f, slotPt d c j fullShare f)

instance slotPt_storable (c s : Dev nD) (j : Fin 4) (q) (f) : BI.Storable (upEmb : UEmb _ 𝕄) (slotPt (F := F) c s j q f) := by unfold slotPt; infer_instance
instance wPt_storable (c : Dev nD) (j : Fin 4) : BI.Storable (upEmb : UEmb _ 𝕄) (wPt (F := F) m c j) := by unfold wPt; infer_instance
instance wHPt_storable (c : Dev nD) (j : Fin 4) : BI.Storable (upEmb : UEmb _ 𝕄) (wHPt (F := F) m c j) := by unfold wHPt; infer_instance
instance xPt_storable (c : Dev nD) : BI.Storable (upEmb : UEmb _ 𝕄) (xPt (F := F) m c) := by unfold xPt; infer_instance
instance xHPt_storable (c : Dev nD) : BI.Storable (upEmb : UEmb _ 𝕄) (xHPt (F := F) m c) := by unfold xHPt; infer_instance
instance landing_storable (d c : Dev nD) : BI.Storable (upEmb : UEmb _ 𝕄) (landing (F := F) d c) := by unfold landing; infer_instance

/-- The share of a slot lent to a transfer to device `t`. -/
def lent (c t : Dev nD) : PosShare TreeShare := shareTok fullShare 7 ⟨(t.val + 7 - c.val) % 8 % 7, Nat.mod_lt _ (by decide)⟩
theorem lent_pd (c : Dev nD) (r : Fin 7) : lent c (pd c r) = shareTok fullShare 7 r := by
  unfold lent; congr 1; revert c r; decide
/-- The share kept. -/
abbrev kept : PosShare TreeShare := shareDrop fullShare 7

/-! ## The schedule -/

def dutiesK (c : Dev nD) : Option CK → Finset (Dev nD)
  | some (.inl 2) => {c}
  | some (.inl _) => Finset.univ.erase c
  | some (.inr (.inl _)) => {c}
  | some (.inr (.inr (.inl p))) => if p.1 = c then ∅ else {c}
  | some (.inr (.inr (.inr p))) => if p.1 = c then ∅ else {p.1}
  | none => ∅

def amountK : Option CK → ℕ
  | some (.inl 2) => Nx
  | some (.inl _) => 1
  | some (.inr (.inl _)) => Nw
  | some (.inr (.inr (.inl _))) => Ns
  | some (.inr (.inr (.inr _))) => Ns
  | none => 1

theorem amountK_pos (k : Option CK) : 0 < amountK k := by
  unfold amountK
  split
  · exact Nx_pos
  · exact Nat.one_pos
  · exact Nw_pos
  · exact Ns_pos
  · exact Ns_pos
  · exact Nat.one_pos

def payK (c d : Dev nD) : Option CK → sProp 𝕄
  | some (.inl 0) => landing d c
  | some (.inl 1) => iprop(emp)
  | some (.inl 2) => iprop(xPt m c ∗ xHPt m c)
  | some (.inr (.inl j)) => iprop(wPt m c j ∗ wHPt m c j)
  | some (.inr (.inr (.inl p))) => slotPt c c p.2 (lent c p.1) (commV m)
  | some (.inr (.inr (.inr p))) => slotPt c p.1 p.2 fullShare (commV m)
  | none => iprop(emp)

instance payK_storable (c d : Dev nD) (k : Option CK) : BI.Storable (upEmb : UEmb _ 𝕄) (payK (F := F) m c d k) := by
  unfold payK
  split <;> infer_instance

def rd : Rounds.Schedule (GSem nD τ sig) (Dev nD) 𝕄 where
  duties g r := if r = 0 ∧ g.1.2 = .tc then dutiesK g.1.1 (kindOf g.2) else ∅
  unitless _ := False
  amount g _ _ := amountK (kindOf g.2)
  payload g _ d := payK m g.1.1 d (kindOf g.2)
  amount_pos g _ _ _ := amountK_pos _

instance rd_payload_storable (g : GSem nD τ sig) (r : ℕ) (d : Dev nD) :
    BI.Storable (upEmb : UEmb _ 𝕄) ((rd (F := F) m).payload g r d) := payK_storable m g.1.1 d (kindOf g.2)

section Sched
variable (c d : Dev nD) (k : CK)

omit [FloatOps F] in
theorem Tc_kind : ((c : Thread nD τ)).2 = .tc := rfl

theorem duties_cell : (rd m).duties (cell c k) 0 = dutiesK c (some k) := by
  show (if (0 : ℕ) = 0 ∧ (c : Thread nD τ).2 = .tc then dutiesK c (kindOf (semOf k)) else ∅) = _
  rw [if_pos ⟨rfl, rfl⟩, kindOf_semOf]
theorem duties_later (g : GSem nD τ sig) : ∀ r, 1 ≤ r → (rd m).duties g r = ∅ :=
  fun r hr => by dsimp only [rd]; rw [if_neg fun h => by omega]
theorem amount_cell (r : ℕ) : (rd m).amount (cell c k) r d = amountK (some k) := by
  show amountK (kindOf (semOf k)) = _; rw [kindOf_semOf]
theorem payload_cell (r : ℕ) : (rd m).payload (cell c k) r d = payK m c d (some k) := by
  show payK m c d (kindOf (semOf k)) = _; rw [kindOf_semOf]

/-- A cell with one duty expects its amount. -/
theorem expect_one (h : dutiesK c (some k) = {d}) : (rd m).expect (cell c k) 0 = amountK (some k) := by
  unfold Schedule.expect Schedule.amountOf
  rw [duties_cell, h, Finset.sum_singleton, amount_cell]
/-- A cell with a duty of every other device expects seven. -/
theorem expect_all (h : dutiesK c (some k) = Finset.univ.erase c) (ha : amountK (some k) = 1) : (rd m).expect (cell c k) 0 = 7 := by
  unfold Schedule.expect Schedule.amountOf
  rw [duties_cell, h, Finset.sum_congr rfl fun d _ => (amount_cell m c d k 0).trans ha, Finset.sum_const, Finset.card_erase_of_mem (Finset.mem_univ _),
    Finset.card_univ, smul_eq_mul]
  rfl
/-- What is handed over at the end of the round of a cell with one duty. -/
theorem rest_one (h : dutiesK c (some k) = {d}) :
    bigSep ((rd m).duties (cell c k) 0 \ ∅) (fun d => (rd m).payload (cell c k) 0 d) = payK m c d (some k) := by
  rw [Finset.sdiff_empty, duties_cell, h, bigSep_singleton, payload_cell]
theorem rest_all (h : dutiesK c (some k) = Finset.univ.erase c) :
    bigSep ((rd m).duties (cell c k) 0 \ ∅) (fun d => (rd m).payload (cell c k) 0 d) = bigSep (Finset.univ.erase c) fun d => payK m c d (some k) := by
  rw [Finset.sdiff_empty, duties_cell, h]
  exact bigSep_congr fun d _ => payload_cell m c d k 0

theorem duties_none (h : dutiesK c (some k) = ∅) : ∀ r, 0 ≤ r → (rd m).duties (cell c k) r = ∅ := fun r _ => by
  rcases Nat.eq_zero_or_pos r with rfl | hr
  · rw [duties_cell, h]
  · exact duties_later m _ r hr

omit [FloatOps F] in
theorem dutiesK_send (t : Dev nD) (j : Fin 4) (h : t ≠ c) : dutiesK c (some (kSend t j)) = {c} := if_neg h
omit [FloatOps F] in
theorem dutiesK_recv (s : Dev nD) (j : Fin 4) (h : s ≠ c) : dutiesK c (some (kRecv s j)) = {s} := if_neg h
omit [FloatOps F] in
theorem dutiesK_send_self (j : Fin 4) : dutiesK c (some (kSend c j)) = ∅ := if_pos rfl
omit [FloatOps F] in
theorem dutiesK_recv_self (j : Fin 4) : dutiesK c (some (kRecv c j)) = ∅ := if_pos rfl

end Sched

/-! ## What is owed, and the levels -/

/-- What device `c` still owes the barrier cells after `n` signals, -/
def barO (c : Dev nD) (n : ℕ) : CellTallies nD τ sig Unit := ∑ i ∈ still 7 n, tallyAt (cell (pd c i) kBar) () 1
/-- the receive cells after `n` transfers, -/
def sendO (c : Dev nD) (n : ℕ) : CellTallies nD τ sig Unit := ∑ i ∈ still 28 n, tallyAt (cell (pd c (rS i)) (kRecv c (jS i))) () Ns
/-- the exit cells after `n` signals. -/
def exitO (c : Dev nD) (n : ℕ) : CellTallies nD τ sig Unit := ∑ i ∈ still 7 n, tallyAt (cell (pd c i) kExit) () 1
/-- What it owes at launch. -/
def O₀ (c : Dev nD) : CellTallies nD τ sig Unit := exitO c 0 + sendO c 0 + barO c 0

theorem barO_step (c : Dev nD) (i : Fin 7) : barO c i.val = barO c (i.val + 1) + tallyAt (cell (pd c i) kBar) () 1 := by
  unfold barO; rw [still_step, Finset.sum_insert (notMem_still i), add_comm]
theorem exitO_step (c : Dev nD) (i : Fin 7) : exitO c i.val = exitO c (i.val + 1) + tallyAt (cell (pd c i) kExit) () 1 := by
  unfold exitO; rw [still_step, Finset.sum_insert (notMem_still i), add_comm]
theorem sendO_step (c : Dev nD) (i : Fin 28) : sendO c i.val = sendO c (i.val + 1) + tallyAt (cell (pd c (rS i)) (kRecv c (jS i))) () Ns := by
  unfold sendO; rw [still_step, Finset.sum_insert (notMem_still i), add_comm]
theorem barO_end (c : Dev nD) : barO c 7 = 0 := by unfold barO; rw [still_all, Finset.sum_empty]
theorem exitO_end (c : Dev nD) : exitO c 7 = 0 := by unfold exitO; rw [still_all, Finset.sum_empty]
theorem sendO_end (c : Dev nD) : sendO c 28 = 0 := by unfold sendO; rw [still_all, Finset.sum_empty]

def L (g : GSem nD τ sig) : Finset Unit := if g.1.2 = .tc then {()} else ∅
def lvK : Option CK → ℕ
  | some (.inl 0) => 1
  | some (.inl 1) => 3
  | some (.inr (.inr (.inr _))) => 2
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) : lv (cell c k) () = lvK (some k) := by unfold lv; rw [kindOf_semOf]

/-- A cell a sum of single debts owes something to is one of theirs. -/
theorem sum_tally_pos {ι : Type} {S : Finset ι} {f : ι → GSem nD τ sig} {n : ι → ℕ} {g : GSem nD τ sig} {u : Unit}
    (h : 0 < (∑ i ∈ S, (tallyAt (f i) () (n i) : CellTallies nD τ sig Unit)) g u) : ∃ i ∈ S, g = f i := by
  by_contra hn
  rw [not_exists] at hn
  rw [Finset.sum_apply, Finsupp.finset_sum_apply, Finset.sum_eq_zero] at h
  · exact Nat.lt_irrefl 0 h
  · intro i hi
    rw [tallyAt_apply, if_neg (fun h' => hn i ⟨hi, h'.1⟩)]

/-- All that is owed is owed to cells of level above `n`. -/
def Above (n : ℕ) (O : CellTallies nD τ sig Unit) : Prop := ∀ g u, 0 < O g u → u ∈ L g ∧ n < lv g u

theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.zero (n : ℕ) : Above n 0 := fun g u hp => absurd hp (by rw [Pi.zero_apply, Finsupp.zero_apply]; exact Nat.lt_irrefl 0)

theorem above_bar (c : Dev nD) (n : ℕ) : Above 0 (barO c n) := fun g u hp => by
  obtain ⟨i, -, rfl⟩ := sum_tally_pos hp
  exact ⟨by rw [L_tc]; exact Finset.mem_singleton_self _, by rw [lv_cell]; decide⟩
theorem above_send {a : ℕ} (ha : a < 2) (c : Dev nD) (n : ℕ) : Above a (sendO c n) := fun g u hp => by
  obtain ⟨i, -, rfl⟩ := sum_tally_pos hp
  exact ⟨by rw [L_tc]; exact Finset.mem_singleton_self _, by rw [lv_cell]; exact ha⟩
theorem above_exit {a : ℕ} (ha : a < 3) (c : Dev nD) (n : ℕ) : Above a (exitO c n) := fun g u hp => by
  obtain ⟨i, -, rfl⟩ := sum_tally_pos hp
  exact ⟨by rw [L_tc]; exact Finset.mem_singleton_self _, by rw [lv_cell]; exact ha⟩

omit [FloatOps F] in
/-- A semaphore of level at most `n` may be waited for while only cells above `n` are owed. -/
theorem mayWait_of (c : Dev nD) (sm : SemLoc sig) (n : ℕ) (O : CellTallies nD τ sig Unit) (hl : lvK (kindOf sm) ≤ n) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1)
    (fun p hp => by rw [Finset.mem_singleton.mp hp]; exact hl)
    (fun g u hg => (h g u hg).2)

/-! ## What a device's body starts from -/

/-- All cells' invariants under the names `K`, and that every cell's round is reached. -/
def records (K : Dev nD × CK → ℕ) : sProp 𝕄 :=
  iprop((bigSep Finset.univ fun p : Dev nD × CK => cellInv ER (rd m) (K p) (cell p.1 p.2))
    ∗ bigSep Finset.univ fun p : Dev nD × CK => reached ER (cell p.1 p.2) 0)

instance records_persistent (K : Dev nD × CK → ℕ) : BI.Persistent (records m K) := by unfold records; infer_instance

theorem inv_at (K : Dev nD × CK → ℕ) (c : Dev nD) (k : CK) : records m K ⊢ cellInv ER (rd m) (K (c, k)) (cell c k) := by
  unfold records
  have h : (bigSep Finset.univ fun p : Dev nD × CK => (cellInv ER (rd m) (K p) (cell p.1 p.2) : sProp 𝕄)) ⊢ cellInv ER (rd m) (K (c, k)) (cell c k) :=
    bigSep_elim (Finset.mem_univ (c, k))
  iintro ⟨H, -⟩
  iapply h
  iexact H
theorem reached_at (K : Dev nD × CK → ℕ) (c : Dev nD) (k : CK) : records m K ⊢ reached ER (cell c k) 0 := by
  unfold records
  have h : (bigSep Finset.univ fun p : Dev nD × CK => (reached ER (cell p.1 p.2) 0 : sProp 𝕄)) ⊢ reached ER (cell c k) 0 :=
    bigSep_elim (Finset.mem_univ (c, k))
  iintro ⟨-, H⟩
  iapply h
  iexact H

/-- What a device pays: the barrier and exit signals, the transfers' two ends, the copies of `x` and of the weights. -/
abbrev PK : Type := Fin 7 ⊕ (Fin 7 ⊕ (Fin 28 ⊕ (Fin 28 ⊕ (Fin 1 ⊕ Fin 4))))
/-- The cell each payment of device `c` goes to. -/
def payCell (c : Dev nD) : PK → GSem nD τ sig
  | .inl r => cell (pd c r) kBar
  | .inr (.inl r) => cell (pd c r) kExit
  | .inr (.inr (.inl i)) => cell c (kSend (pd c (rS i)) (jS i))
  | .inr (.inr (.inr (.inl i))) => cell (pd c (rS i)) (kRecv c (jS i))
  | .inr (.inr (.inr (.inr (.inl _)))) => cell c kX
  | .inr (.inr (.inr (.inr (.inr j)))) => cell c (kW j)

/-- A device's position in every cell of its own, and the tokens of what it pays. -/
def linear (c : Dev nD) : sProp 𝕄 :=
  iprop((bigSep Finset.univ fun k : CK => atPos ER (cell c k) 0 ∅ 0) ∗ bigSep Finset.univ fun x : PK => dutyTok ER (payCell c x) 0 c)

/-- The credits a device is dealt: its barrier's and exit's seven, and a slot's for each receipt, in waiting order. -/
def credits (c : Dev nD) : sProp 𝕄 :=
  iprop(cred (tallyAt (cell c kBar) () 7) ∗ cred (tallyAt (cell c kExit) () 7)
    ∗ bigSep Finset.univ fun i : Fin 28 => cred (tallyAt (cell c (kRecv (pd c (rW i)) (jW i))) () Ns))

def start (c : Dev nD) : sProp 𝕄 :=
  iprop(∃ K, (records m K ∗ levAts L lv) ∗ linear c ∗ credits c
    ∗ xHPt m c ∗ (((c : Thread nD τ).loc main_arg3) ↦{fullShare} m ((c : Thread nD τ).loc main_arg3)))

end Cert.Moe

end
-- ==== Proof.Steps.lean ====
/-
# The effects of the body, one lemma each

Each lemma proves a program that starts with one effect from what the effect needs, given a proof of the rest of the
program from what the effect leaves. What is not touched is carried along as `R`. The signals, the transfers and the
waits come in runs of seven or twenty-eight; the state before step `N` of a run keeps the steps still to come and the
steps already taken in two separating products, so that one lemma serves the whole run.
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTok)

variable {F : FTy → Type} [FloatOps F]

local notation "𝕄" => MT nD τ sig Unit (Elt F) ℕ UU ℕ

variable (m : (ℓ : Loc nD τ sig) → Buf (Elt F) ℓ) (K : Dev nD × CK → ℕ)

/-- The assertions. -/
abbrev SP (F : FTy → Type) [FloatOps F] : Type := sProp (MT nD τ sig Unit (Elt F) ℕ UU ℕ)

/-- Device `c` runs `p` with postcondition `Q`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A separating product over one more step. -/
theorem bigSep_ins {ι : Type} [DecidableEq ι] {S : Finset ι} {i : ι} (hi : i ∉ S) {Φ : ι → SP F} :
    bigSep (insert i S) Φ = iprop(Φ i ∗ bigSep S Φ) := bigSep_insert hi

/-- What every step may use and none uses up. -/
def ctx : sProp 𝕄 := iprop(records m K ∗ levAts L lv)
instance ctx_persistent : BI.Persistent (ctx (F := F) m K) := by unfold ctx; infer_instance

theorem ctx_inv (c : Dev nD) (k : CK) : ctx m K ⊢ cellInv ER (rd m) (K (c, k)) (cell c k) := by
  unfold ctx; iintro ⟨H, -⟩; iapply (inv_at m K c k); iexact H
theorem ctx_reached (c : Dev nD) (k : CK) : ctx m K ⊢ reached ER (cell c k) 0 := by
  unfold ctx; iintro ⟨H, -⟩; iapply (reached_at m K c k); iexact H
theorem ctx_lev : ctx m K ⊢ levAts L lv := by
  unfold ctx; iintro ⟨-, H⟩; iexact H

/-- Device `c` owes `O`, whatever it has waited for. -/
def owesE (c : Dev nD) (O : CellTallies nD τ sig Unit) : sProp 𝕄 := iprop(∃ W, owes (c : Thread nD τ) O W)

/-- Device `c` is past every duty of its cell `k`. -/
def done (c : Dev nD) (k : CK) : sProp 𝕄 :=
  iprop(∃ r, ⌜∀ r', r ≤ r' → (rd m).duties (cell c k) r' = ∅⌝ ∗ atPos ER (cell c k) r ∅ 0)

/-! ## The states of the runs -/

/-- Before barrier signal `N`. -/
def BS (c : Dev nD) (N : ℕ) : sProp 𝕄 :=
  iprop(owesE c (exitO c 0 + sendO c 0 + barO c N)
    ∗ bigSep (still 7 N) fun r => iprop(dutyTok ER (cell (pd c r) kBar) 0 c ∗ landing c (pd c r)))

/-- Before transfer `N`. -/
def SS (c : Dev nD) (N : ℕ) : sProp 𝕄 :=
  iprop(owesE c (exitO c 0 + sendO c N)
    ∗ (bigSep (still 28 N) fun i => iprop(dutyTok ER (cell c (kSend (pd c (rS i)) (jS i))) 0 c
        ∗ dutyTok ER (cell (pd c (rS i)) (kRecv c (jS i))) 0 c ∗ ∃ f, slotPt (pd c (rS i)) c (jS i) fullShare f))
    ∗ bigSep (taken 28 N) fun i => cred (tallyAt (cell c (kSend (pd c (rS i)) (jS i))) () Ns))

/-- The shares of slot `(c, j)` for transfers `r` to 6 of expert `j`. -/
def LentS (c : Dev nD) (j : Fin 4) (r : ℕ) : sProp 𝕄 :=
  bigSep (still 7 r) fun r => slotPt c c j (shareTok fullShare 7 r) (commV m)

/-- Before receive wait `N`. -/
def RW (c : Dev nD) (N : ℕ) : sProp 𝕄 :=
  iprop(owesE c (exitO c 0)
    ∗ (bigSep (still 28 N) fun i => iprop(atPos ER (cell c (kRecv (pd c (rW i)) (jW i))) 0 ∅ 0
        ∗ cred (tallyAt (cell c (kRecv (pd c (rW i)) (jW i))) () Ns)))
    ∗ bigSep (taken 28 N) fun i => iprop(done m c (kRecv (pd c (rW i)) (jW i)) ∗ slotPt c (pd c (rW i)) (jW i) fullShare (commV m)))

/-- Before send wait `N`. -/
def SW (c : Dev nD) (N : ℕ) : sProp 𝕄 :=
  iprop(owesE c (exitO c 0)
    ∗ (bigSep (still 28 N) fun i => iprop(atPos ER (cell c (kSend (pd c (rS i)) (jS i))) 0 ∅ 0
        ∗ cred (tallyAt (cell c (kSend (pd c (rS i)) (jS i))) () Ns)))
    ∗ bigSep (taken 28 N) fun i => iprop(done m c (kSend (pd c (rS i)) (jS i)) ∗ slotPt c c (jS i) (lent c (pd c (rS i))) (commV m)))

/-- Before exit signal `N`. -/
def XS (c : Dev nD) (N : ℕ) : sProp 𝕄 :=
  iprop(owesE c (exitO c N) ∗ bigSep (still 7 N) fun r => dutyTok ER (cell (pd c r) kExit) 0 c)

/-- Before the copy of `x`, -/
def XC0 (c : Dev nD) : sProp 𝕄 :=
  iprop(dutyTok ER (cell c kX) 0 c ∗ (∃ f, ((c : Thread nD τ).loc cc0_scratch0) ↦{fullShare} f) ∗ xHPt m c)
/-- while it is under way, -/
def XC1 (c : Dev nD) : sProp 𝕄 := iprop(atPos ER (cell c kX) 0 ∅ 0 ∗ cred (tallyAt (cell c kX) () Nx))
/-- after it. -/
def XC2 (c : Dev nD) : sProp 𝕄 := iprop(done m c kX ∗ xPt m c ∗ xHPt m c)

/-- Before the copy of weight slice `j`, -/
def WC0 (c : Dev nD) (j : Fin 4) : sProp 𝕄 :=
  iprop(dutyTok ER (cell c (kW j)) 0 c ∗ (∃ f, ((c : Thread nD τ).loc cc0_scratch1) ↦[sliceSet j]{fullShare} f) ∗ wHPt m c j)
/-- while it is under way, -/
def WC1 (c : Dev nD) (j : Fin 4) : sProp 𝕄 := iprop(atPos ER (cell c (kW j)) 0 ∅ 0 ∗ cred (tallyAt (cell c (kW j)) () Nw))
/-- after it. -/
def WC2 (c : Dev nD) (j : Fin 4) : sProp 𝕄 := iprop(done m c (kW j) ∗ wPt m c j ∗ wHPt m c j)

/-- Before the barrier wait, -/
def BW1 (c : Dev nD) : sProp 𝕄 := iprop(atPos ER (cell c kBar) 0 ∅ 0 ∗ cred (tallyAt (cell c kBar) () 7))
/-- after it. -/
def BW2 (c : Dev nD) : sProp 𝕄 :=
  iprop(owesE c (exitO c 0 + sendO c 0) ∗ done m c kBar ∗ bigSep Finset.univ fun r => landing (pd c r) c)
/-- Before the exit wait, -/
def EW1 (c : Dev nD) : sProp 𝕄 := iprop(atPos ER (cell c kExit) 0 ∅ 0 ∗ cred (tallyAt (cell c kExit) () 7))
/-- after it. -/
def EW2 (c : Dev nD) : sProp 𝕄 := iprop(owesE c 0 ∗ done m c kExit)

section Steps
variable (c : Dev nD) {α : Type} {Q : α → SP F} {R : SP F} {k : PUnit → Prog (TpuEff nD τ sig (Elt F) Λ₀ .tc) α}

/-! ## Waits -/

/-- A wait for all that its cell expects. -/
theorem step_wait (κ : CK) {w : TpuEff nD τ sig (Elt F) Λ₀ .tc PUnit} {kk : ℕ}
    (hw : ∀ K' : PUnit → sProp 𝕄, wpE (defs₀ (F := F)) 𝒱₀ (c : Thread nD τ) none Set.univ w K' = waitSpec (c : Thread nD τ) Set.univ (semOf κ) kk K')
    (O : CellTallies nD τ sig Unit) (n : ℕ) (he : (rd m).expect (cell c κ) 0 = kk) (hl : lvK (some κ) ≤ n) (ha : Above n O)
    {P : sProp 𝕄} (hP : bigSep ((rd m).duties (cell c κ) 0 \ ∅) (fun d => (rd m).payload (cell c κ) 0 d) = P)
    (h : iprop(ctx m K ∗ (owesE c O ∗ done m c κ ∗ P) ∗ R) ⊢ Run c (k ⟨⟩) Q) :
    iprop(ctx m K ∗ (owesE c O ∗ atPos ER (cell c κ) 0 ∅ 0 ∗ cred (tallyAt (cell c κ) () kk)) ∗ R) ⊢ Run c (.op w k) Q := by
  unfold owesE
  iintro ⟨#HX, ⟨⟨%W, HO⟩, Hat, Hc⟩, HR⟩
  iapply (Rounds.wp_wait_rest_token 𝒱₀ ER (rd m) (c : Thread nD τ) none (κ := K (c, κ)) (sm := semOf κ)
      hw (Set.mem_univ _) () (O := O) (W := W) (R := 0) (m := 0) (T := ∅)
      (by rw [Nat.zero_add, he])) $$ [Hc HO Hat]
  · isplitr; · iapply (ctx_inv m K c κ); iexact HX
    isplitl [Hc]; · iexact Hc
    isplitl [HO]; · iexact HO
    isplitr
    · iapply (mayWait_of c (semOf κ) n O (by rw [kindOf_semOf]; exact hl) ha); iapply (ctx_lev m K); iexact HX
    iexact Hat
  iintro ⟨HO, Hat, -, Hpay⟩
  iapply h
  isplitr; · iexact HX
  isplitr [HR]
  · isplitl [HO]; · unfold owesE; iexists _; iexact HO
    isplitl [Hat]
    · unfold done; iexists 1; isplitr; · (ipureintro; exact duties_later m _)
      iexact Hat
    iapply (Entails.of_eq hP); iexact Hpay
  iexact HR

/-- A wait on a DMA cell with one duty, of device `d`. -/
theorem step_waitDma (κ : CK) (d : Dev nD) {sp sp' : Space} {s s' : Shape} {e e' : EltTy} {q : DmaSem sig} (hq : SemLoc.dma q = semOf κ)
    {src : Memref sig .tc sp' s' e'} {dst : Memref sig .tc sp s e} {hsrc : src.view.WordExact} {hdst : dst.view.WordExact}
    {kk : ℕ} (hk : dst.view.dmaCredit = kk) (hK : amountK (some κ) = kk)
    (O : CellTallies nD τ sig Unit) (n : ℕ) (hd : dutiesK c (some κ) = {d}) (hl : lvK (some κ) ≤ n) (ha : Above n O)
    {P : SP F} (hP : payK m c d (some κ) = P)
    (h : iprop(ctx m K ∗ (owesE c O ∗ done m c κ ∗ P) ∗ R) ⊢ Run c (k ⟨⟩) Q) :
    iprop(ctx m K ∗ (owesE c O ∗ atPos ER (cell c κ) 0 ∅ 0 ∗ cred (tallyAt (cell c κ) () kk)) ∗ R)
      ⊢ Run c (.op (.waitDma2 q src dst hsrc hdst) k) Q := by
  subst hk
  exact step_wait m K c κ (fun K' => by rw [wpE_waitDma2_eq, hq]) O n ((expect_one m c d κ hd).trans hK) hl ha ((rest_one m c d κ hd).trans hP) h

/-- The wait for the copy of `x`. -/
theorem step_xwait (N : ℕ) {sp sp' : Space} {s s' : Shape} {e e' : EltTy} {q : DmaSem sig} (hq : q = xS)
    {src : Memref sig .tc sp' s' e'} {dst : Memref sig .tc sp s e} {hsrc : src.view.WordExact} {hdst : dst.view.WordExact}
    (hk : dst.view.dmaCredit = Nx)
    (h : iprop(ctx m K ∗ SS c N ∗ XC2 m c ∗ R) ⊢ Run c (k ⟨⟩) Q) :
    iprop(ctx m K ∗ SS c N ∗ XC1 c ∗ R) ⊢ Run c (.op (.waitDma2 q src dst hsrc hdst) k) Q := by
  unfold SS XC1
  iintro ⟨#HX, ⟨HO, HS⟩, ⟨Hat, Hc⟩, HR⟩
  iapply (step_waitDma m K c kX c (P := iprop(xPt m c ∗ xHPt m c)) (R := iprop((_ ∗ _) ∗ R)) (by rw [hq]; rfl) hk rfl (exitO c 0 + sendO c N) 0 rfl (by decide)
    ((above_exit (by decide) c 0).add (above_send (by decide) c N)) rfl ?_) $$ [HO Hat Hc HS HR]
  rotate_left
  · isplitr; · iexact HX
    isplitl [HO Hat Hc]
    · isplitl [HO]; · iexact HO
      isplitl [Hat] <;> iassumption
    isplitl [HS]; · iexact HS
    iexact HR
  · iintro ⟨#HX, ⟨HO, Hd, Hx, Hx'⟩, HS, HR⟩
    iapply h
    isplitr; · iexact HX
    isplitl [HO HS]
    · unfold SS; isplitl [HO] <;> iassumption
    isplitr [HR]
    · unfold XC2
      isplitl [Hd]; · iexact Hd
      isplitl [Hx] <;> iassumption
    iexact HR

/-- The wait for the copy of weight slice `j`. -/
theorem step_wwait (j : Fin 4) (N : ℕ) {sp sp' : Space} {s s' : Shape} {e e' : EltTy} {q : DmaSem sig} (hq : q = wS j)
    {src : Memref sig .tc sp' s' e'} {dst : Memref sig .tc sp s e} {hsrc : src.view.WordExact} {hdst : dst.view.WordExact}
    (hk : dst.view.dmaCredit = Nw)
    (h : iprop(ctx m K ∗ SS c N ∗ WC2 m c j ∗ R) ⊢ Run c (k ⟨⟩) Q) :
    iprop(ctx m K ∗ SS c N ∗ WC1 c j ∗ R) ⊢ Run c (.op (.waitDma2 q src dst hsrc hdst) k) Q := by
  unfold SS WC1
  iintro ⟨#HX, ⟨HO, HS⟩, ⟨Hat, Hc⟩, HR⟩
  iapply (step_waitDma m K c (kW j) c (P := iprop(wPt m c j ∗ wHPt m c j)) (R := iprop((_ ∗ _) ∗ R)) (by rw [hq]; rfl) hk rfl (exitO c 0 + sendO c N) 0 rfl (Nat.le_refl 0)
    ((above_exit (by decide) c 0).add (above_send (by decide) c N)) rfl ?_) $$ [HO Hat Hc HS HR]
  rotate_left
  · isplitr; · iexact HX
    isplitl [HO Hat Hc]
    · isplitl [HO]; · iexact HO
      isplitl [Hat] <;> iassumption
    isplitl [HS]; · iexact HS
    iexact HR
  · iintro ⟨#HX, ⟨HO, Hd, Hx, Hx'⟩, HS, HR⟩
    iapply h
    isplitr; · iexact HX
    isplitl [HO HS]
    · unfold SS; isplitl [HO] <;> iassumption
    isplitr [HR]
    · unfold WC2
      isplitl [Hd]; · iexact Hd
      isplitl [Hx] <;> iassumption
    iexact HR

/-- Receive wait `N`. -/
theorem step_recv (N : ℕ) (hN : N < 28) {sp sp' : Space} {s s' : Shape} {e e' : EltTy} {q : DmaSem sig}
    (hq : q = recvS (pd c (rW ⟨N, hN⟩)) (jW ⟨N, hN⟩))
    {src : Memref sig .tc sp' s' e'} {dst : Memref sig .tc sp s e} {hsrc : src.view.WordExact} {hdst : dst.view.WordExact}
    (hk : dst.view.dmaCredit = Ns)
    (h : iprop(ctx m K ∗ RW m c (N + 1) ∗ R) ⊢ Run c (k ⟨⟩) Q) :
    iprop(ctx m K ∗ RW m c N ∗ R) ⊢ Run c (.op (.waitDma2 q src dst hsrc hdst) k) Q := by
  have e1 := still_step (⟨N, hN⟩ : Fin 28)
  have e2 := taken_step (⟨N, hN⟩ : Fin 28)
  have n1 := notMem_still (⟨N, hN⟩ : Fin 28)
  have n2 := notMem_taken (⟨N, hN⟩ : Fin 28)
  dsimp only at e1 e2 n1 n2
  unfold RW
  rw [e1, bigSep_ins n1]
  iintro ⟨#HX, ⟨HO, ⟨⟨Hat, Hc⟩, HS⟩, HT⟩, HR⟩
  iapply (step_waitDma m K c (kRecv (pd c (rW ⟨N, hN⟩)) (jW ⟨N, hN⟩)) (pd c (rW ⟨N, hN⟩))
    (P := slotPt c (pd c (rW ⟨N, hN⟩)) (jW ⟨N, hN⟩) fullShare (commV m)) (R := iprop((_ ∗ _) ∗ R)) (by rw [hq]; rfl) hk rfl
    (exitO c 0) 2 (dutiesK_recv c _ _ (pd_ne c _)) (Nat.le_refl 2) (above_exit (by decide) c 0) rfl ?_) $$ [HO Hat Hc HS HT HR]
  rotate_left
  · isplitr; · iexact HX
    isplitl [HO Hat Hc]
    · isplitl [HO]; · iexact HO
      isplitl [Hat] <;> iassumption
    isplitl [HS HT]
    · isplitl [HS]
      · iexact HS
      iexact HT
    iexact HR
  · iintro ⟨#HX, ⟨HO, Hd, Hx⟩, ⟨HS, HT⟩, HR⟩
    iapply h
    isplitr; · iexact HX
    isplitr [HR]
    · unfold RW
      rw [e2, bigSep_ins n2]
      isplitl [HO]; · iexact HO
      isplitl [HS]; · iexact HS
      isplitl [Hd Hx]
      · isplitl [Hd] <;> iassumption
      iexact HT
    iexact HR

/-- Send wait `N`. -/
theorem step_sent (N : ℕ) (hN : N < 28) {sp sp' : Space} {s s' : Shape} {e e' : EltTy} {q : DmaSem sig}
    (hq : q = sendS (pd c (rS ⟨N, hN⟩)) (jS ⟨N, hN⟩))
    {src : Memref sig .tc sp' s' e'} {dst : Memref sig .tc sp s e} {hsrc : src.view.WordExact} {hdst : dst.view.WordExact}
    (hk : dst.view.dmaCredit = Ns)
    (h : iprop(ctx m K ∗ SW m c (N + 1) ∗ R) ⊢ Run c (k ⟨⟩) Q) :
    iprop(ctx m K ∗ SW m c N ∗ R) ⊢ Run c (.op (.waitDma2 q src dst hsrc hdst) k) Q := by
  have e1 := still_step (⟨N, hN⟩ : Fin 28)
  have e2 := taken_step (⟨N, hN⟩ : Fin 28)
  have n1 := notMem_still (⟨N, hN⟩ : Fin 28)
  have n2 := notMem_taken (⟨N, hN⟩ : Fin 28)
  dsimp only at e1 e2 n1 n2
  unfold SW
  rw [e1, bigSep_ins n1]
  iintro ⟨#HX, ⟨HO, ⟨⟨Hat, Hc⟩, HS⟩, HT⟩, HR⟩
  iapply (step_waitDma m K c (kSend (pd c (rS ⟨N, hN⟩)) (jS ⟨N, hN⟩)) c
    (P := slotPt c c (jS ⟨N, hN⟩) (lent c (pd c (rS ⟨N, hN⟩))) (commV m)) (R := iprop((_ ∗ _) ∗ R)) (by rw [hq]; rfl) hk rfl
    (exitO c 0) 0 (dutiesK_send c _ _ (pd_ne c _)) (Nat.le_refl 0) (above_exit (by decide) c 0) rfl ?_) $$ [HO Hat Hc HS HT HR]
  rotate_left
  · isplitr; · iexact HX
    isplitl [HO Hat Hc]
    · isplitl [HO]; · iexact HO
      isplitl [Hat] <;> iassumption
    isplitl [HS HT]
    · isplitl [HS]
      · iexact HS
      iexact HT
    iexact HR
  · iintro ⟨#HX, ⟨HO, Hd, Hx⟩, ⟨HS, HT⟩, HR⟩
    iapply h
    isplitr; · iexact HX
    isplitr [HR]
    · unfold SW
      rw [e2, bigSep_ins n2]
      isplitl [HO]; · iexact HO
      isplitl [HS]; · iexact HS
      isplitl [Hd Hx]
      · isplitl [Hd] <;> iassumption
      iexact HT
    iexact HR

/-- The barrier wait: every other device's slots `(c, ·)`. -/
theorem step_barwait {q : Sem sig} (hq : q = barS) {kk : ℤ} (hk : kk = ((7 : ℕ) : ℤ))
    (h : iprop(ctx m K ∗ BW2 m c ∗ R) ⊢ Run c (k ⟨⟩) Q) :
    iprop(ctx m K ∗ BS c 7 ∗ BW1 c ∗ R) ⊢ Run c (.op (.semWait q kk) k) Q := by
  subst hq hk
  have hu : (Finset.univ.erase c : Finset (Dev nD)) = Finset.univ.map ⟨pd c, pd_inj c⟩ := by
    ext d
    simp only [Finset.mem_erase, Finset.mem_univ, and_true, Finset.mem_map, true_and, Function.Embedding.coeFn_mk]
    exact ⟨fun hd => pd_surj c d hd, fun ⟨r, hr⟩ => hr ▸ pd_ne c r⟩
  unfold BS BW1
  unfold BW2 at h
  rw [barO_end, add_zero]
  iintro ⟨#HX, ⟨HO, -⟩, ⟨Hat, Hc⟩, HR⟩
  iapply (step_wait m K c kBar (fun K' => wpE_semWait_eq 𝒱₀ (c : Thread nD τ) none Set.univ K') (exitO c 0 + sendO c 0) 1
    (expect_all m c kBar rfl rfl) (Nat.le_refl 1) ((above_exit (by decide) c 0).add (above_send (by decide) c 0))
    ((rest_all m c kBar rfl).trans (by rw [hu, bigSep_map]; rfl)) h) $$ [HO Hat Hc HR]
  isplitr; · iexact HX
  isplitl [HO Hat Hc]
  · isplitl [HO]; · iexact HO
    isplitl [Hat] <;> iassumption
  iexact HR

/-- The exit wait. -/
theorem step_exitwait {q : Sem sig} (hq : q = exitS) {kk : ℤ} (hk : kk = ((7 : ℕ) : ℤ))
    (h : iprop(ctx m K ∗ EW2 m c ∗ R) ⊢ Run c (k ⟨⟩) Q) :
    iprop(ctx m K ∗ XS c 7 ∗ EW1 c ∗ R) ⊢ Run c (.op (.semWait q kk) k) Q := by
  subst hq hk
  unfold XS EW1
  unfold EW2 at h
  rw [exitO_end]
  iintro ⟨#HX, ⟨HO, -⟩, ⟨Hat, Hc⟩, HR⟩
  iapply (step_wait m K c kExit (R := R) (fun K' => wpE_semWait_eq 𝒱₀ (c : Thread nD τ) none Set.univ K') 0 3
    (expect_all m c kExit rfl rfl) (Nat.le_refl 3) (Above.zero 3) (rest_all m c kExit rfl) ?_) $$ [HO Hat Hc HR]
  rotate_left
  · isplitr; · iexact HX
    isplitl [HO Hat Hc]
    · isplitl [HO]; · iexact HO
      isplitl [Hat] <;> iassumption
    iexact HR
  · iintro ⟨#HX, ⟨HO, Hd, -⟩, HR⟩
    iapply h
    isplitr; · iexact HX
    isplitl [HO Hd]
    · isplitl [HO] <;> iassumption
    iexact HR

/-! ## Signals -/

/-- Barrier signal `N`. -/
theorem step_bar (N : ℕ) (hN : N < 7) {n : Dev nD} (hn : n.val = (c.val + (N + 1)) % 8) {q : Sem sig} (hq : q = barS) {kk : ℤ} (hk : kk = ((1 : ℕ) : ℤ))
    (h : iprop(ctx m K ∗ BS c (N + 1) ∗ R) ⊢ Run c (k ⟨⟩) Q) :
    iprop(ctx m K ∗ BS c N ∗ R) ⊢ Run c (.op (.semSignal (n, Proc.tc) q kk) k) Q := by
  obtain rfl : n = pd c ⟨N, hN⟩ := eq_pd ⟨N, hN⟩ hn
  subst hq hk
  have e1 := still_step (⟨N, hN⟩ : Fin 7)
  have n1 := notMem_still (⟨N, hN⟩ : Fin 7)
  have e3 := barO_step c (⟨N, hN⟩ : Fin 7)
  dsimp only at e1 n1 e3
  unfold BS owesE
  rw [e1, bigSep_ins n1, e3]
  iintro ⟨#HX, ⟨⟨%W, HO⟩, ⟨Ht, Hl⟩, HS⟩, HR⟩
  iapply (Rounds.wp_signal 𝒱₀ ER (rd m) (c : Thread nD τ) none (dst := (pd c ⟨N, hN⟩ : Thread nD τ)) (sem := barS) (κ := K (pd c ⟨N, hN⟩, kBar)) (r := 0)
      (d := c) (by rw [show ((pd c ⟨N, hN⟩ : Thread nD τ), SemLoc.reg barS) = cell (pd c ⟨N, hN⟩) kBar from rfl, duties_cell]
                   exact Finset.mem_erase.mpr ⟨(pd_ne c _).symm, Finset.mem_univ _⟩)
      (amount_cell m (pd c ⟨N, hN⟩) c kBar 0) () (exitO c 0 + sendO c 0 + barO c (N + 1)) (add_assoc _ _ _).symm (W := W)) $$ [HO Ht Hl]
  · isplitr; · iapply (ctx_inv m K (pd c ⟨N, hN⟩) kBar); iexact HX
    isplitl [HO]; · iexact HO
    isplitl [Ht]; · iexact Ht
    isplitl [Hl]
    · rw [show (rd m).payload ((pd c ⟨N, hN⟩ : Thread nD τ), SemLoc.reg barS) 0 c = landing c (pd c ⟨N, hN⟩) from payload_cell m (pd c ⟨N, hN⟩) c kBar 0]
      iexact Hl
    iapply (ctx_reached m K (pd c ⟨N, hN⟩) kBar); iexact HX
  iintro HO
  iapply h
  isplitr; · iexact HX
  isplitr [HR]
  · unfold BS owesE
    isplitl [HO]; · iexists W; iexact HO
    iexact HS
  iexact HR

/-- Exit signal `N`. -/
theorem step_exit (N : ℕ) (hN : N < 7) {n : Dev nD} (hn : n.val = (c.val + (N + 1)) % 8) {q : Sem sig} (hq : q = exitS) {kk : ℤ} (hk : kk = ((1 : ℕ) : ℤ))
    (h : iprop(ctx m K ∗ XS c (N + 1) ∗ R) ⊢ Run c (k ⟨⟩) Q) :
    iprop(ctx m K ∗ XS c N ∗ R) ⊢ Run c (.op (.semSignal (n, Proc.tc) q kk) k) Q := by
  obtain rfl : n = pd c ⟨N, hN⟩ := eq_pd ⟨N, hN⟩ hn
  subst hq hk
  have e1 := still_step (⟨N, hN⟩ : Fin 7)
  have n1 := notMem_still (⟨N, hN⟩ : Fin 7)
  have e3 := exitO_step c (⟨N, hN⟩ : Fin 7)
  dsimp only at e1 n1 e3
  unfold XS owesE
  rw [e1, bigSep_ins n1, e3]
  iintro ⟨#HX, ⟨⟨%W, HO⟩, Ht, HS⟩, HR⟩
  iapply (Rounds.wp_signal 𝒱₀ ER (rd m) (c : Thread nD τ) none (dst := (pd c ⟨N, hN⟩ : Thread nD τ)) (sem := exitS) (κ := K (pd c ⟨N, hN⟩, kExit)) (r := 0)
      (d := c) (by rw [show ((pd c ⟨N, hN⟩ : Thread nD τ), SemLoc.reg exitS) = cell (pd c ⟨N, hN⟩) kExit from rfl, duties_cell]
                   exact Finset.mem_erase.mpr ⟨(pd_ne c _).symm, Finset.mem_univ _⟩)
      (amount_cell m (pd c ⟨N, hN⟩) c kExit 0) () (exitO c (N + 1)) rfl (W := W)) $$ [HO Ht]
  · isplitr; · iapply (ctx_inv m K (pd c ⟨N, hN⟩) kExit); iexact HX
    isplitl [HO]; · iexact HO
    isplitl [Ht]; · iexact Ht
    isplitr
    · rw [show (rd m).payload ((pd c ⟨N, hN⟩ : Thread nD τ), SemLoc.reg exitS) 0 c = iprop(emp) from payload_cell m (pd c ⟨N, hN⟩) c kExit 0]
      iempintro
    iapply (ctx_reached m K (pd c ⟨N, hN⟩) kExit); iexact HX
  iintro HO
  iapply h
  isplitr; · iexact HX
  isplitr [HR]
  · unfold XS owesE
    isplitl [HO]; · iexists W; iexact HO
    iexact HS
  iexact HR

/-! ## Copies and transfers -/

/-- What is owned of the program's view of a slot is the slot. -/
theorem slot_pts {s : Dev nD} {j : Fin 4} {off : Fin 4 → ℕ} (ho : off = ![s.val, j.val, 0, 0])
    (h : ∀ a, off a + S1x1x25x1024.size a ≤ S8x4x25x1024.size a)
    (hs : ∀ a, (Rect.unit (s := S8x4x25x1024) off S1x1x25x1024.size h).stride a = 1)
    (hq : (Rect.unit (s := S8x4x25x1024) off S1x1x25x1024.size h).shape.Squeezes S25x1024)
    (d : Dev nD) (q : PosShare TreeShare) (f : S8x4x25x1024.Idx → Elt F .bf16) :
    ((((commM.slice (Rect.unit (s := S8x4x25x1024) off S1x1x25x1024.size h) hs).squeeze S25x1024 hq).view.loc (d : Thread nD τ))
        ↦[((commM.slice (Rect.unit (s := S8x4x25x1024) off S1x1x25x1024.size h) hs).squeeze S25x1024 hq).view.set]{q} f : SP F)
      = slotPt d s j q f :=
  congrArg (fun S => (((d : Thread nD τ).loc cc0_scratch2) ↦[S]{q} (f : Buf (Elt F) ((d : Thread nD τ).loc cc0_scratch2)) : SP F)) (view_slot ho h hs hq)

/-- A transfer of slot `(c, j)` to another device `t`. -/
theorem send_slot (t : Dev nD) (ht : t ≠ c) (j : Fin 4) (q : PosShare TreeShare)
    (hl : lent c t = q) {off : Fin 4 → ℕ} (ho : off = ![c.val, j.val, 0, 0])
    {hin : ∀ a, off a + S1x1x25x1024.size a ≤ S8x4x25x1024.size a}
    {hst : ∀ a, (Rect.unit (s := S8x4x25x1024) off S1x1x25x1024.size hin).stride a = 1}
    {hsq : (Rect.unit (s := S8x4x25x1024) off S1x1x25x1024.size hin).shape.Squeezes S25x1024}
    {hsc : ((commM.slice (Rect.unit (s := S8x4x25x1024) off S1x1x25x1024.size hin) hst).squeeze S25x1024 hsq
      : Memref sig (Dev.tc t : Thread nD τ).2.kind .vmem S25x1024 .bf16).view.ref.isScScratch = false}
    {hsrc : ((commM.slice (Rect.unit (s := S8x4x25x1024) off S1x1x25x1024.size hin) hst).squeeze S25x1024 hsq).view.WordExact}
    {hdst : ((commM.slice (Rect.unit (s := S8x4x25x1024) off S1x1x25x1024.size hin) hst).squeeze S25x1024 hsq).view.WordExact}
    {hsem : DmaTarget.Typed .vmem (.dma (recvS c j)) (.remote (Dev.tc t : Thread nD τ)
      ((commM.slice (Rect.unit (s := S8x4x25x1024) off S1x1x25x1024.size hin) hst).squeeze S25x1024 hsq) (.dma (sendS t j)) hsc)}
    (f : S8x4x25x1024.Idx → Elt F .bf16) (O : CellTallies nD τ sig Unit) (W : Waits sig Unit) :
    iprop(cellInv ER (rd m) (K (c, kSend t j)) (cell c (kSend t j)) ∗ cellInv ER (rd m) (K (t, kRecv c j)) (cell t (kRecv c j))
        ∗ slotPt c c j q (commV m) ∗ slotPt t c j fullShare f
        ∗ owes (c : Thread nD τ) (O + tallyAt (cell t (kRecv c j)) () Ns) W
        ∗ dutyTok ER (cell c (kSend t j)) 0 c ∗ reached ER (cell c (kSend t j)) 0
        ∗ dutyTok ER (cell t (kRecv c j)) 0 c ∗ reached ER (cell t (kRecv c j)) 0)
      ⊢ iprop(((cred (tallyAt (cell c (kSend t j)) () Ns) ∗ owes (c : Thread nD τ) O W) -∗ Run c (k ⟨⟩) Q)
        -∗ Run c (.op (.enqueueDma
      ((commM.slice (Rect.unit (s := S8x4x25x1024) off S1x1x25x1024.size hin) hst).squeeze S25x1024 hsq)
      (.remote (Dev.tc t : Thread nD τ) ((commM.slice (Rect.unit (s := S8x4x25x1024) off S1x1x25x1024.size hin) hst).squeeze S25x1024 hsq)
        (.dma (sendS t j)) hsc)
      (.dma (recvS c j)) hsrc hdst hsem) k) Q) := by
  rw [← slot_pts ho hin hst hsq c, ← slot_pts ho hin hst hsq t]
  have h1 : c ∈ (rd m).duties ((c : Thread nD τ), SemLoc.dma (sendS t j)) 0 := by
    have := duties_cell m c (kSend t j); rw [dutiesK_send c _ _ ht] at this
    exact (Finset.ext_iff.mp this c).mpr (Finset.mem_singleton_self _)
  have h2 : c ∈ (rd m).duties ((t : Thread nD τ), SemLoc.dma (recvS c j)) 0 := by
    have := duties_cell m t (kRecv c j); rw [dutiesK_recv t c j ht.symm] at this
    exact (Finset.ext_iff.mp this c).mpr (Finset.mem_singleton_self _)
  have h3 : (rd m).amount ((c : Thread nD τ), SemLoc.dma (sendS t j)) 0 c = Ns := amount_cell m c c (kSend t j) 0
  have h4 : (rd m).amount ((t : Thread nD τ), SemLoc.dma (recvS c j)) 0 c = Ns := amount_cell m t c (kRecv c j) 0
  have h5 : slotPt c c j q (commV m) ⊢ (rd m).payload ((c : Thread nD τ), SemLoc.dma (sendS t j)) 0 c := by
    rw [← hl]; exact Entails.of_eq (payload_cell m c c (kSend t j) 0).symm
  have h6 : slotPt t c j fullShare (commV m) ⊢ (rd m).payload ((t : Thread nD τ), SemLoc.dma (recvS c j)) 0 c :=
    Entails.of_eq (payload_cell m t c (kRecv c j) 0).symm
  exact Rounds.wp_send_pointsTo 𝒱₀ ER (rd m) (c : Thread nD τ) none (κ₁ := K (c, kSend t j)) (κ₂ := K (t, kRecv c j))
      (src := (commM.slice (Rect.unit (s := S8x4x25x1024) off S1x1x25x1024.size hin) hst).squeeze S25x1024 hsq) (dst := (commM.slice (Rect.unit (s := S8x4x25x1024) off S1x1x25x1024.size hin) hst).squeeze S25x1024 hsq) (c' := (t : Thread nD τ)) (sS := .dma (sendS t j)) (sem := .dma (recvS c j)) (r₁ := 0) (r₂ := 0) (d₁ := c) (d₂ := c) (q := q) (fs := commV m) (fd := f) h1 h2
      () () Ns rfl h3 h4 O rfl (W := W)
      ((Entails.of_eq (slot_pts ho hin hst hsq c _ _)).trans h5)
      ((Entails.of_eq ((pointsTo_congr fun i hi => write_read_on _ _ _ hi).trans (slot_pts ho hin hst hsq t _ _))).trans h6)

/-- Transfer `N`: slot `(c, j)`, to device `pd c r`, for expert `j`. -/
theorem step_send (N : ℕ) (hN : N < 28) (r : ℕ) (hr : r < 7) (j : Fin 4) (hj : jS ⟨N, hN⟩ = j) (hrr : rS ⟨N, hN⟩ = ⟨r, hr⟩)
    {n : Dev nD} (hn : n.val = (c.val + (r + 1)) % 8) {qs qr : DmaSem sig} (hqs : qs = sendS (pd c ⟨r, hr⟩) j) (hqr : qr = recvS c j)
    {off : Fin 4 → ℕ} (ho : off = ![c.val, j.val, 0, 0])
    {hin : ∀ a, off a + S1x1x25x1024.size a ≤ S8x4x25x1024.size a}
    {hst : ∀ a, (Rect.unit (s := S8x4x25x1024) off S1x1x25x1024.size hin).stride a = 1}
    {hsq : (Rect.unit (s := S8x4x25x1024) off S1x1x25x1024.size hin).shape.Squeezes S25x1024}
    {hsc : ((commM.slice (Rect.unit (s := S8x4x25x1024) off S1x1x25x1024.size hin) hst).squeeze S25x1024 hsq
      : Memref sig (Dev.tc n : Thread nD τ).2.kind .vmem S25x1024 .bf16).view.ref.isScScratch = false}
    {hsrc : ((commM.slice (Rect.unit (s := S8x4x25x1024) off S1x1x25x1024.size hin) hst).squeeze S25x1024 hsq).view.WordExact}
    {hdst : ((commM.slice (Rect.unit (s := S8x4x25x1024) off S1x1x25x1024.size hin) hst).squeeze S25x1024 hsq).view.WordExact}
    {hsem : DmaTarget.Typed .vmem (.dma qr) (.remote (Dev.tc n : Thread nD τ)
      ((commM.slice (Rect.unit (s := S8x4x25x1024) off S1x1x25x1024.size hin) hst).squeeze S25x1024 hsq) (.dma qs) hsc)}
    (h : iprop(ctx m K ∗ SS c (N + 1) ∗ LentS m c j (r + 1) ∗ R) ⊢ Run c (k ⟨⟩) Q) :
    iprop(ctx m K ∗ SS c N ∗ LentS m c j r ∗ R) ⊢ Run c (.op (.enqueueDma
      ((commM.slice (Rect.unit (s := S8x4x25x1024) off S1x1x25x1024.size hin) hst).squeeze S25x1024 hsq)
      (.remote (Dev.tc n : Thread nD τ) ((commM.slice (Rect.unit (s := S8x4x25x1024) off S1x1x25x1024.size hin) hst).squeeze S25x1024 hsq) (.dma qs) hsc)
      (.dma qr) hsrc hdst hsem) k) Q := by
  obtain rfl : n = pd c ⟨r, hr⟩ := eq_pd ⟨r, hr⟩ hn
  subst hqs hqr
  have e1 := still_step (⟨N, hN⟩ : Fin 28)
  have e2 := taken_step (⟨N, hN⟩ : Fin 28)
  have n1 := notMem_still (⟨N, hN⟩ : Fin 28)
  have n2 := notMem_taken (⟨N, hN⟩ : Fin 28)
  have e3 := sendO_step c (⟨N, hN⟩ : Fin 28)
  have e4 := still_step (⟨r, hr⟩ : Fin 7)
  have n4 := notMem_still (⟨r, hr⟩ : Fin 7)
  dsimp only at e1 e2 n1 n2 e3 e4 n4
  rw [hj, hrr] at e3
  unfold SS LentS owesE
  rw [e1, bigSep_ins n1, e3, e4, bigSep_ins n4, hj, hrr]
  iintro ⟨#HX, ⟨⟨%W, HO⟩, ⟨⟨Ht, Ht', %f, Hl⟩, HS⟩, HT⟩, ⟨Hq, HL⟩, HR⟩
  rw [show exitO c 0 + (sendO c (N + 1) + tallyAt (cell (pd c ⟨r, hr⟩) (kRecv c j)) () Ns)
    = exitO c 0 + sendO c (N + 1) + tallyAt (cell (pd c ⟨r, hr⟩) (kRecv c j)) () Ns from (add_assoc _ _ _).symm]
  iapply (send_slot m K c (pd c ⟨r, hr⟩) (pd_ne c _) j (shareTok fullShare 7 ⟨r, hr⟩) (lent_pd c ⟨r, hr⟩) ho f (exitO c 0 + sendO c (N + 1)) W)
    $$ [HO Ht Ht' Hl Hq]
  · isplitr; · iapply (ctx_inv m K c (kSend (pd c ⟨r, hr⟩) j)); iexact HX
    isplitr; · iapply (ctx_inv m K (pd c ⟨r, hr⟩) (kRecv c j)); iexact HX
    isplitl [Hq]; · iexact Hq
    isplitl [Hl]; · iexact Hl
    isplitl [HO]; · iexact HO
    isplitl [Ht]; · iexact Ht
    isplitr; · iapply (ctx_reached m K c (kSend (pd c ⟨r, hr⟩) j)); iexact HX
    isplitl [Ht']; · iexact Ht'
    iapply (ctx_reached m K (pd c ⟨r, hr⟩) (kRecv c j)); iexact HX
  iintro ⟨Hc, HO⟩
  iapply h
  isplitr; · iexact HX
  isplitr [HL HR]
  · unfold SS owesE
    rw [e2, bigSep_ins n2, hj, hrr]
    isplitl [HO]; · iexists W; iexact HO
    isplitl [HS]; · iexact HS
    isplitl [Hc]; · iexact Hc
    iexact HT
  isplitl [HL]
  · unfold LentS
    iexact HL
  iexact HR

/-- The copy of `x`. -/
theorem step_xcopy {q : DmaSem sig} (hq : q = xS) {hsrc : xH.view.WordExact} {hdst : xM.view.WordExact}
    {hsem : DmaTarget.Typed .hbm (.dma q) (.here xM : DmaTarget nD τ sig .tc .vmem S1024x512 .f32)}
    (h : iprop(ctx m K ∗ cred (tallyAt (cell c kX) () Nx) ∗ R) ⊢ Run c (k ⟨⟩) Q) :
    iprop(ctx m K ∗ XC0 m c ∗ R) ⊢ Run c (.op (.enqueueDma xH (.here xM) (.dma q) hsrc hdst hsem) k) Q := by
  subst hq
  unfold XC0
  iintro ⟨#HX, ⟨Ht, ⟨%f, Hd⟩, Hs⟩, HR⟩
  have h1 : c ∈ (rd m).duties ((c : Thread nD τ), SemLoc.dma xS) 0 := by
    have := duties_cell m c kX
    exact (Finset.ext_iff.mp this c).mpr (Finset.mem_singleton_self _)
  have h3 : (rd m).amount ((c : Thread nD τ), SemLoc.dma xS) 0 c = Nx := amount_cell m c c kX 0
  have h5 : iprop(xPt m c ∗ xHPt m c) ⊢ (rd m).payload ((c : Thread nD τ), SemLoc.dma xS) 0 c :=
    Entails.of_eq (payload_cell m c c kX 0).symm
  have hx : (xM : Memref sig .tc .vmem S1024x512 .f32).view.set = Finset.univ := View.set_whole _
  have hx' : (xH : Memref sig .tc .hbm S1024x512 .f32).view.set = Finset.univ := View.set_whole _
  iapply (Rounds.wp_copy_pointsTo 𝒱₀ ER (rd m) (c : Thread nD τ) none (κ := K (c, kX)) (src := xH) (dst := xM) (sem := .dma xS) (r := 0) (d := c)
      (q := fullShare) (fs := m ((c : Thread nD τ).loc main_arg0)) (fd := f) h1 () Nx rfl h3
      (BI.Entails.trans (by
        unfold xPt xHPt xv
        rw [hx, hx', View.read_whole, View.write_whole_univ]
        exact BI.Entails.refl _) h5)) $$ [Ht Hd Hs]
  · isplitr; · iapply (ctx_inv m K c kX); iexact HX
    isplitl [Hs]
    · unfold xHPt; rw [hx']; iexact Hs
    isplitl [Hd]
    · rw [hx]; iexact Hd
    isplitl [Ht]; · iexact Ht
    iapply (ctx_reached m K c kX); iexact HX
  iintro Hc
  iapply h
  isplitr; · iexact HX
  isplitl [Hc]; · iexact Hc
  iexact HR

/-- The runs of the weight copies: before copy `N`. -/
def LW (c : Dev nD) (N : ℕ) : SP F :=
  iprop((bigSep (still 4 N) fun j => WC0 m c j) ∗ bigSep (taken 4 N) fun j => cred (tallyAt (cell c (kW j)) () Nw))

/-- Copy `N` of a weight slice. -/
theorem step_wcopy (N : ℕ) (hN : N < 4) {q : DmaSem sig} (hq : q = wS ⟨N, hN⟩) {off : Fin 3 → ℕ} (ho : off = ![N, 0, 0])
    {hin : ∀ a, off a + S1x512x1024.size a ≤ S4x512x1024.size a}
    {hst : ∀ a, (Rect.unit (s := S4x512x1024) off S1x512x1024.size hin).stride a = 1}
    {hsq : (Rect.unit (s := S4x512x1024) off S1x512x1024.size hin).shape.Squeezes S512x1024}
    {hsrc : ((wH.slice (Rect.unit (s := S4x512x1024) off S1x512x1024.size hin) hst).squeeze S512x1024 hsq).view.WordExact}
    {hdst : ((wM.slice (Rect.unit (s := S4x512x1024) off S1x512x1024.size hin) hst).squeeze S512x1024 hsq).view.WordExact}
    {hsem : DmaTarget.Typed .hbm (.dma q) (.here ((wM.slice (Rect.unit (s := S4x512x1024) off S1x512x1024.size hin) hst).squeeze S512x1024 hsq)
      : DmaTarget nD τ sig .tc .vmem S512x1024 .f32)}
    (h : iprop(ctx m K ∗ LW m c (N + 1) ∗ R) ⊢ Run c (k ⟨⟩) Q) :
    iprop(ctx m K ∗ LW m c N ∗ R) ⊢ Run c (.op (.enqueueDma
      ((wH.slice (Rect.unit (s := S4x512x1024) off S1x512x1024.size hin) hst).squeeze S512x1024 hsq)
      (.here ((wM.slice (Rect.unit (s := S4x512x1024) off S1x512x1024.size hin) hst).squeeze S512x1024 hsq)) (.dma q) hsrc hdst hsem) k) Q := by
  subst hq
  have e1 := still_step (⟨N, hN⟩ : Fin 4)
  have e2 := taken_step (⟨N, hN⟩ : Fin 4)
  have n1 := notMem_still (⟨N, hN⟩ : Fin 4)
  have n2 := notMem_taken (⟨N, hN⟩ : Fin 4)
  dsimp only at e1 e2 n1 n2
  have h1 : c ∈ (rd m).duties ((c : Thread nD τ), SemLoc.dma (wS ⟨N, hN⟩)) 0 := by
    have := duties_cell m c (kW ⟨N, hN⟩)
    exact (Finset.ext_iff.mp this c).mpr (Finset.mem_singleton_self _)
  have h3 : (rd m).amount ((c : Thread nD τ), SemLoc.dma (wS ⟨N, hN⟩)) 0 c = Nw := amount_cell m c c (kW ⟨N, hN⟩) 0
  have h5 : iprop(wPt m c ⟨N, hN⟩ ∗ wHPt m c ⟨N, hN⟩) ⊢ (rd m).payload ((c : Thread nD τ), SemLoc.dma (wS ⟨N, hN⟩)) 0 c :=
    Entails.of_eq (payload_cell m c c (kW ⟨N, hN⟩) 0).symm
  have hx : ((wM.slice (Rect.unit (s := S4x512x1024) off S1x512x1024.size hin) hst).squeeze S512x1024 hsq).view.set = sliceSet ⟨N, hN⟩ :=
    (View.set_reshape _ _).trans ((View.set_slice_whole _ _).trans (rect_slice (j := ⟨N, hN⟩) ho hin))
  have hx' : ((wH.slice (Rect.unit (s := S4x512x1024) off S1x512x1024.size hin) hst).squeeze S512x1024 hsq).view.set = sliceSet ⟨N, hN⟩ :=
    (View.set_reshape _ _).trans ((View.set_slice_whole _ _).trans (rect_slice (j := ⟨N, hN⟩) ho hin))
  have hm (f : Buf (Elt F) ((c : Thread nD τ).loc cc0_scratch1)) : ((c : Thread nD τ).loc cc0_scratch1 ↦[sliceSet ⟨N, hN⟩]{fullShare} f : SP F)
      = (((wM.slice (Rect.unit (s := S4x512x1024) off S1x512x1024.size hin) hst).squeeze S512x1024 hsq).view.loc (c : Thread nD τ)
        ↦[((wM.slice (Rect.unit (s := S4x512x1024) off S1x512x1024.size hin) hst).squeeze S512x1024 hsq).view.set]{fullShare} f) :=
    congrArg (fun S => ((c : Thread nD τ).loc cc0_scratch1 ↦[S]{fullShare} f : SP F)) hx.symm
  have hh : (wHPt m c ⟨N, hN⟩ : SP F)
      = (((wH.slice (Rect.unit (s := S4x512x1024) off S1x512x1024.size hin) hst).squeeze S512x1024 hsq).view.loc (c : Thread nD τ)
        ↦[((wH.slice (Rect.unit (s := S4x512x1024) off S1x512x1024.size hin) hst).squeeze S512x1024 hsq).view.set]{fullShare}
          m ((c : Thread nD τ).loc main_arg3)) :=
    congrArg (fun S => ((c : Thread nD τ).loc main_arg3 ↦[S]{fullShare} m ((c : Thread nD τ).loc main_arg3) : SP F)) hx'.symm
  unfold LW
  rw [e1, bigSep_ins n1]
  unfold WC0
  rw [hh]
  iintro ⟨#HX, ⟨⟨⟨Ht, ⟨%f, Hd⟩, Hs⟩, HS⟩, HT⟩, HR⟩
  iapply (Rounds.wp_copy_pointsTo 𝒱₀ ER (rd m) (c : Thread nD τ) none (κ := K (c, kW ⟨N, hN⟩))
      (src := (wH.slice (Rect.unit (s := S4x512x1024) off S1x512x1024.size hin) hst).squeeze S512x1024 hsq)
      (dst := (wM.slice (Rect.unit (s := S4x512x1024) off S1x512x1024.size hin) hst).squeeze S512x1024 hsq)
      (sem := .dma (wS ⟨N, hN⟩)) (r := 0) (d := c)
      (q := fullShare) (fs := m ((c : Thread nD τ).loc main_arg3)) (fd := f) h1 () Nw rfl h3
      (BI.Entails.trans (by
        rw [← hh]
        change _ ⊢ iprop(wPt m c ⟨N, hN⟩ ∗ wHPt m c ⟨N, hN⟩)
        iintro ⟨A, B⟩
        isplitl [A]
        · iapply (Entails.of_eq (((pointsTo_congr fun i hi => write_read_on _ f (wBuf m c) hi).trans (hm (wBuf m c)).symm).trans
            (show _ = wPt m c ⟨N, hN⟩ from rfl)))
          iexact A
        iexact B) h5)) $$ [Ht Hd Hs]
  · isplitr; · iapply (ctx_inv m K c (kW ⟨N, hN⟩)); iexact HX
    isplitl [Hs]; · iexact Hs
    isplitl [Hd]
    · iapply (Entails.of_eq (hm f)); iexact Hd
    isplitl [Ht]; · iexact Ht
    iapply (ctx_reached m K c (kW ⟨N, hN⟩)); iexact HX
  iintro Hc
  iapply h
  isplitr; · iexact HX
  isplitr [HR]
  · unfold LW
    rw [e2, bigSep_ins n2]
    isplitl [HS]; · unfold WC0; iexact HS
    isplitl [Hc]; · iexact Hc
    iexact HT
  iexact HR

/-! ## Loads and stores -/

/-- A load, from a buffer of which the elements `S` are owned with contents `f`. -/
theorem step_load {cs : CoreSpace} {s : Shape} {e : EltTy} {M : Memref sig .tc cs s e} {r : LoadRect s} {hl : M.view.LoadsAt r}
    {kk : (r.shape.Idx → Elt F e) → Prog (TpuEff nD τ sig (Elt F) Λ₀ .tc) α} {S : Finset (Idx (M.view.loc (c : Thread nD τ)))} {q : PosShare TreeShare}
    {f : Buf (Elt F) (M.view.loc (c : Thread nD τ))} (hS : M.view.setOn r.set ⊆ S)
    {P : SP F} (hP : (M.view.loc (c : Thread nD τ) ↦[S]{q} f) = P) {v : r.shape.Idx → Elt F e} (hv : M.view.readAt (Elt F) r f = v)
    (h : iprop(ctx m K ∗ P ∗ R) ⊢ Run c (kk v) Q) :
    iprop(ctx m K ∗ P ∗ R) ⊢ Run c (.op (.load M r hl) kk) Q := by
  subst hP hv
  iintro ⟨#HX, Hx, HR⟩
  iapply (wp_load 𝒱₀ (c : Thread nD τ) none Set.univ (m := M) hS) $$ Hx
  iintro Hx
  iapply h
  isplitr; · iexact HX
  isplitl [Hx]; · iexact Hx
  iexact HR

/-- A load of weight slice `j`. -/
theorem step_load_w (j : Fin 4) {off : Fin 3 → ℕ} (ho : off = ![j.val, 0, 0]) {hin : ∀ a, off a + S1x512x1024.size a ≤ S4x512x1024.size a}
    {hl : wM.view.LoadsAt (Rect.unit (s := S4x512x1024) off S1x512x1024.size hin).toLoadRect}
    {kk : Vec F S1x512x1024 .f32 → Prog (TpuEff nD τ sig (Elt F) Λ₀ .tc) α}
    (h : iprop(ctx m K ∗ WC2 m c j ∗ R) ⊢ Run c (kk (wv m c j)) Q) :
    iprop(ctx m K ∗ WC2 m c j ∗ R) ⊢ Run c (.op (.load wM (Rect.unit (s := S4x512x1024) off S1x512x1024.size hin).toLoadRect hl) kk) Q := by
  subst ho
  have hs : wM.view.setOn (sliceR j).toLoadRect.set ⊆ sliceSet j := by
    have h0 := View.set_slice (v := wM.view) (sliceR j)
    have h1 := (View.set_slice_whole cc0_scratch1 (sliceR j)).trans (rect_slice (j := j) rfl (slice_inb j))
    exact (h0.symm.trans h1).le
  unfold WC2
  iintro ⟨#HX, ⟨Hd, Hx, Hh⟩, HR⟩
  iapply (step_load m K c (M := wM) (r := (sliceR j).toLoadRect) (R := iprop((done m c (kW j) ∗ wHPt m c j) ∗ R)) (f := wBuf m c) (q := fullShare)
    hs (P := wPt m c j) rfl (v := wv m c j) rfl ?_) $$ [Hd Hx Hh HR]
  rotate_left
  · isplitr; · iexact HX
    isplitl [Hx]; · iexact Hx
    isplitl [Hd Hh]
    · isplitl [Hd]; · iexact Hd
      iexact Hh
    iexact HR
  · iintro ⟨#HX, Hx, ⟨Hd, Hh⟩, HR⟩
    iapply h
    isplitr; · iexact HX
    isplitr [HR]
    · unfold WC2
      isplitl [Hd]; · iexact Hd
      isplitl [Hx]; · iexact Hx
      iexact Hh
    iexact HR

/-- A load of a slot of the device's own exchange buffer, whatever it holds. -/
theorem step_load_own (s : Dev nD) (j : Fin 4) {off : Fin 4 → ℕ} (ho : off = ![s.val, j.val, 0, 0])
    {hin : ∀ a, off a + S1x1x25x1024.size a ≤ S8x4x25x1024.size a}
    {hl : commM.view.LoadsAt (Rect.unit (s := S8x4x25x1024) off S1x1x25x1024.size hin).toLoadRect}
    {kk : Vec F S1x1x25x1024 .bf16 → Prog (TpuEff nD τ sig (Elt F) Λ₀ .tc) α}
    (h : ∀ x, iprop(ctx m K ∗ (∃ f, slotPt c s j fullShare f) ∗ R) ⊢ Run c (kk x) Q) :
    iprop(ctx m K ∗ (∃ f, slotPt c s j fullShare f) ∗ R)
      ⊢ Run c (.op (.load commM (Rect.unit (s := S8x4x25x1024) off S1x1x25x1024.size hin).toLoadRect hl) kk) Q := by
  subst ho
  have hs : commM.view.setOn (slotR s j).toLoadRect.set ⊆ slotSet s j :=
    ((View.set_slice (v := commM.view) (slotR s j)).symm.trans
      ((View.set_slice_whole cc0_scratch2 (slotR s j)).trans (rect_slot (s := s) (j := j) rfl (slot_inb s j)))).le
  iintro ⟨#HX, ⟨%f, Hx⟩, HR⟩
  iapply (step_load m K c (M := commM) (r := (slotR s j).toLoadRect) (R := R) (f := f) (q := fullShare)
    hs (P := slotPt c s j fullShare f) rfl rfl ?_) $$ [Hx HR]
  rotate_left
  · isplitr; · iexact HX
    isplitl [Hx]; · iexact Hx
    iexact HR
  · iintro ⟨#HX, Hx, HR⟩
    iapply (h _)
    isplitr; · iexact HX
    isplitl [Hx]; · iexists f; iexact Hx
    iexact HR

/-- The store of a computed block into its slot: the slot's share is then split, one part kept, seven to be lent. -/
theorem step_store_own (j : Fin 4) {off : Fin 4 → ℕ} (ho : off = ![c.val, j.val, 0, 0])
    {hin : ∀ a, off a + S1x1x25x1024.size a ≤ S8x4x25x1024.size a}
    {w : Vec F S1x1x25x1024 .bf16} (hw : w = blk m c j)
    {hx : (commM.access (Rect.unit (s := S8x4x25x1024) off S1x1x25x1024.size hin)).Stores Finset.univ}
    {hm : (Finset.univ : Finset (Rect.unit (s := S8x4x25x1024) off S1x1x25x1024.size hin).shape.Idx) = Finset.univ
      ∨ ∀ a, (Rect.unit (s := S8x4x25x1024) off S1x1x25x1024.size hin).stride a = 1}
    (h : iprop(ctx m K ∗ (slotPt c c j kept (commV m) ∗ LentS m c j 0) ∗ R) ⊢ Run c (k ⟨⟩) Q) :
    iprop(ctx m K ∗ (∃ f, slotPt c c j fullShare f) ∗ R)
      ⊢ Run c (.op (.store commM (Rect.unit (s := S8x4x25x1024) off S1x1x25x1024.size hin) w Finset.univ hx hm) k) Q := by
  subst ho hw
  have hset : (commM.access (slotR c j)).set = slotSet c j :=
    (View.set_slice_whole cc0_scratch2 (slotR c j)).trans (rect_slot (s := c) (j := j) rfl (slot_inb c j))
  have hs : (commM.access (slotR c j)).setOn Finset.univ ⊆ slotSet c j := hset.le
  have hv : blk m c j = (commM.access (slotR c j)).read (Elt F) (commV m) := (readAt_commV m c j).symm
  iintro ⟨#HX, ⟨%f, Hx⟩, HR⟩
  have hc : (((commM.access (slotR c j)).loc (c : Thread nD τ) ↦[slotSet c j]{fullShare} ((commM.access (slotR c j)).write (Elt F) f (blk m c j) Finset.univ)) : SP F)
      = ((c : Thread nD τ).loc cc0_scratch2 ↦[slotSet c j]{fullShare} (commV m)) :=
    pointsTo_congr fun i hi => by rw [hv]; exact write_read_on (commM.access (slotR c j)) f (commV m) (hset.symm ▸ hi)
  iapply (wp_store 𝒱₀ (c : Thread nD τ) none Set.univ (m := commM) (r := slotR c j) (Mk := Finset.univ) (f := f) hs) $$ [Hx]
  · unfold slotPt; iexact Hx
  iintro Hx
  iapply h
  isplitr; · iexact HX
  isplitr [HR]
  · ihave Hx := (Entails.of_eq hc) $$ Hx
    ihave Hx := (Transfers.pointsTo_toks_split fullShare 7) $$ Hx
    icases Hx with ⟨Ha, Hb⟩
    isplitl [Ha]; · unfold slotPt; iexact Ha
    unfold LentS slotPt
    rw [still_zero]
    iexact Hb
  iexact HR

/-- The exchange buffer, complete, at the share kept. -/
def allKept : SP F := ((c : Thread nD τ).loc cc0_scratch2) ↦{kept} (commV m : Buf (Elt F) ((c : Thread nD τ).loc cc0_scratch2))

/-- A load of slot `(s, j)` of the complete exchange buffer. -/
theorem step_load_slot (s : Dev nD) (j : Fin 4) {off : Fin 4 → ℕ} (ho : off = ![s.val, j.val, 0, 0])
    {hin : ∀ a, off a + S1x1x25x1024.size a ≤ S8x4x25x1024.size a}
    {hl : commM.view.LoadsAt (Rect.unit (s := S8x4x25x1024) off S1x1x25x1024.size hin).toLoadRect}
    {kk : Vec F S1x1x25x1024 .bf16 → Prog (TpuEff nD τ sig (Elt F) Λ₀ .tc) α}
    (h : iprop(ctx m K ∗ allKept m c ∗ R) ⊢ Run c (kk (blk m s j)) Q) :
    iprop(ctx m K ∗ allKept m c ∗ R)
      ⊢ Run c (.op (.load commM (Rect.unit (s := S8x4x25x1024) off S1x1x25x1024.size hin).toLoadRect hl) kk) Q := by
  subst ho
  exact step_load m K c (M := commM) (r := (slotR s j).toLoadRect) (f := commV m) (q := kept) (S := Finset.univ) (Finset.subset_univ _) rfl
    (readAt_commV m s j) h

omit [FloatOps F] in
theorem hz2 : (![0, 0] : Fin 2 → ℕ) = fun _ => 0 := by funext a; fin_cases a <;> rfl

/-- A load of the token buffer. -/
theorem step_load_x {hin : ∀ a, (![0, 0] : Fin 2 → ℕ) a + S1024x512.size a ≤ S1024x512.size a}
    {hl : xM.view.LoadsAt (Rect.unit (s := S1024x512) ![0, 0] S1024x512.size hin).toLoadRect}
    {kk : Vec F S1024x512 .f32 → Prog (TpuEff nD τ sig (Elt F) Λ₀ .tc) α}
    (h : iprop(ctx m K ∗ XC2 m c ∗ R) ⊢ Run c (kk (xv m c)) Q) :
    iprop(ctx m K ∗ XC2 m c ∗ R) ⊢ Run c (.op (.load xM (Rect.unit (s := S1024x512) ![0, 0] S1024x512.size hin).toLoadRect hl) kk) Q := by
  unfold XC2
  iintro ⟨#HX, ⟨Hd, Hx, Hh⟩, HR⟩
  iapply (step_load m K c (M := xM) (r := (Rect.unit (s := S1024x512) ![0, 0] S1024x512.size hin).toLoadRect)
    (R := iprop((done m c kX ∗ xHPt m c) ∗ R)) (f := xv m c) (q := fullShare) (S := Finset.univ)
    (Finset.subset_univ _) (P := xPt m c) rfl (v := xv m c) (Memref.readAt_unit_zero (Elt F) cc0_scratch0 hz2 _ _) ?_) $$ [Hd Hx Hh HR]
  rotate_left
  · isplitr; · iexact HX
    isplitl [Hx]; · iexact Hx
    isplitl [Hd Hh]
    · isplitl [Hd]; · iexact Hd
      iexact Hh
    iexact HR
  · iintro ⟨#HX, Hx, ⟨Hd, Hh⟩, HR⟩
    iapply h
    isplitr; · iexact HX
    isplitr [HR]
    · unfold XC2
      isplitl [Hd]; · iexact Hd
      isplitl [Hx]; · iexact Hx
      iexact Hh
    iexact HR

/-- The staged experts of the tokens, -/
def idxPt : SP F := ((c : Thread nD τ).loc cc0_stg0_0) ↦{fullShare} (idxv m c : Buf (Elt F) ((c : Thread nD τ).loc cc0_stg0_0))
/-- and the staged output, with contents `f`. -/
def outPt (c : Dev nD) (f : (cc0_stg1_0 : Ref sig .tc).ty.Contents (Elt F)) : SP F :=
  ((c : Thread nD τ).loc cc0_stg1_0) ↦{fullShare} (f : Buf (Elt F) ((c : Thread nD τ).loc cc0_stg1_0))

/-- A load of the experts of the tokens. -/
theorem step_load_idx {hin : ∀ a, (![0, 0] : Fin 2 → ℕ) a + S1024x1.size a ≤ S1024x1.size a}
    {hl : (Memref.whole cc0_stg0_0 : Memref sig .tc .vmem S1024x1 .i32).view.LoadsAt (Rect.unit (s := S1024x1) ![0, 0] S1024x1.size hin).toLoadRect}
    {kk : Vec F S1024x1 .i32 → Prog (TpuEff nD τ sig (Elt F) Λ₀ .tc) α}
    (h : iprop(ctx m K ∗ idxPt m c ∗ R) ⊢ Run c (kk (idxv m c)) Q) :
    iprop(ctx m K ∗ idxPt m c ∗ R) ⊢ Run c (.op (.load (Memref.whole cc0_stg0_0 : Memref sig .tc .vmem S1024x1 .i32)
      (Rect.unit (s := S1024x1) ![0, 0] S1024x1.size hin).toLoadRect hl) kk) Q :=
  step_load m K c (M := (Memref.whole cc0_stg0_0 : Memref sig .tc .vmem S1024x1 .i32))
    (r := (Rect.unit (s := S1024x1) ![0, 0] S1024x1.size hin).toLoadRect) (f := idxv m c) (q := fullShare) (S := Finset.univ)
    (Finset.subset_univ _) rfl (Memref.readAt_unit_zero (Elt F) cc0_stg0_0 hz2 _ _) h

/-- A load of the output buffer, whatever it holds. -/
theorem step_load_out (f : (cc0_stg1_0 : Ref sig .tc).ty.Contents (Elt F)) {hin : ∀ a, (![0, 0] : Fin 2 → ℕ) a + S1024x1024.size a ≤ S1024x1024.size a}
    {hl : (Memref.whole cc0_stg1_0 : Memref sig .tc .vmem S1024x1024 .f32).view.LoadsAt (Rect.unit (s := S1024x1024) ![0, 0] S1024x1024.size hin).toLoadRect}
    {kk : Vec F S1024x1024 .f32 → Prog (TpuEff nD τ sig (Elt F) Λ₀ .tc) α}
    (h : ∀ x, iprop(ctx m K ∗ outPt c f ∗ R) ⊢ Run c (kk x) Q) :
    iprop(ctx m K ∗ outPt c f ∗ R) ⊢ Run c (.op (.load (Memref.whole cc0_stg1_0 : Memref sig .tc .vmem S1024x1024 .f32)
      (Rect.unit (s := S1024x1024) ![0, 0] S1024x1024.size hin).toLoadRect hl) kk) Q :=
  step_load m K c (M := (Memref.whole cc0_stg1_0 : Memref sig .tc .vmem S1024x1024 .f32))
    (r := (Rect.unit (s := S1024x1024) ![0, 0] S1024x1024.size hin).toLoadRect) (f := f) (q := fullShare) (S := Finset.univ)
    (Finset.subset_univ _) rfl rfl (h _)

/-- The store of the output. -/
theorem step_store_out (f : (cc0_stg1_0 : Ref sig .tc).ty.Contents (Elt F)) (w : Vec F S1024x1024 .f32)
    {hin : ∀ a, (![0, 0] : Fin 2 → ℕ) a + S1024x1024.size a ≤ S1024x1024.size a}
    {hx : ((Memref.whole cc0_stg1_0 : Memref sig .tc .vmem S1024x1024 .f32).access (Rect.unit (s := S1024x1024) ![0, 0] S1024x1024.size hin)).Stores Finset.univ}
    {hm : (Finset.univ : Finset (Rect.unit (s := S1024x1024) ![0, 0] S1024x1024.size hin).shape.Idx) = Finset.univ
      ∨ ∀ a, (Rect.unit (s := S1024x1024) ![0, 0] S1024x1024.size hin).stride a = 1}
    (h : iprop(ctx m K ∗ outPt c w ∗ R) ⊢ Run c (k ⟨⟩) Q) :
    iprop(ctx m K ∗ outPt c f ∗ R) ⊢ Run c (.op (.store (Memref.whole cc0_stg1_0 : Memref sig .tc .vmem S1024x1024 .f32)
      (Rect.unit (s := S1024x1024) ![0, 0] S1024x1024.size hin) w Finset.univ hx hm) k) Q := by
  iintro ⟨#HX, Hx, HR⟩
  unfold outPt
  iapply (wp_store 𝒱₀ (c : Thread nD τ) none Set.univ (m := (Memref.whole cc0_stg1_0 : Memref sig .tc .vmem S1024x1024 .f32))
    (r := Rect.unit (s := S1024x1024) ![0, 0] S1024x1024.size hin) (Mk := Finset.univ) (f := f) (Finset.subset_univ _)) $$ Hx
  iintro Hx
  iapply h
  isplitr; · iexact HX
  isplitl [Hx]
  · unfold outPt
    rw [show ((Memref.whole cc0_stg1_0 : Memref sig .tc .vmem S1024x1024 .f32).access (Rect.unit (s := S1024x1024) ![0, 0] S1024x1024.size hin)).write (Elt F) f w
      Finset.univ = w from Memref.write_access_unit_zero_univ (Elt F) cc0_stg1_0 hz2 _ f w]
    iexact Hx
  iexact HR

/-! ## Rearranging what is owned -/

section Arrange
variable {A B C D G W : SP F}

/-- A resource of two parts counts as two resources. -/
theorem flat (h : iprop(ctx m K ∗ A ∗ B ∗ R) ⊢ G) : iprop(ctx m K ∗ (A ∗ B) ∗ R) ⊢ G := by
  iintro ⟨#HX, ⟨HA, HB⟩, HR⟩
  iapply h
  isplitr; · iexact HX
  isplitl [HA]; · iexact HA
  isplitl [HB]; · iexact HB
  iexact HR
/-- The second resource to the front; -/
theorem pull2 (h : iprop(ctx m K ∗ B ∗ A ∗ R) ⊢ G) : iprop(ctx m K ∗ A ∗ B ∗ R) ⊢ G := by
  iintro ⟨#HX, HA, HB, HR⟩
  iapply h
  isplitr; · iexact HX
  isplitl [HB]; · iexact HB
  isplitl [HA]; · iexact HA
  iexact HR
/-- the third. -/
theorem pull3 (h : iprop(ctx m K ∗ C ∗ A ∗ B ∗ R) ⊢ G) : iprop(ctx m K ∗ A ∗ B ∗ C ∗ R) ⊢ G := by
  iintro ⟨#HX, HA, HB, HC, HR⟩
  iapply h
  isplitr; · iexact HX
  isplitl [HC]; · iexact HC
  isplitl [HA]; · iexact HA
  isplitl [HB]; · iexact HB
  iexact HR

/-- The fourth. -/
theorem pull4 (h : iprop(ctx m K ∗ D ∗ A ∗ B ∗ C ∗ R) ⊢ G) : iprop(ctx m K ∗ A ∗ B ∗ C ∗ D ∗ R) ⊢ G := by
  iintro ⟨#HX, HA, HB, HC, HD, HR⟩
  iapply h
  isplitr; · iexact HX
  isplitl [HD]; · iexact HD
  isplitl [HA]; · iexact HA
  isplitl [HB]; · iexact HB
  isplitl [HC]; · iexact HC
  iexact HR
/-- Two resources give two others. -/
theorem conv (e : iprop(A ∗ B) ⊢ iprop(C ∗ D)) (h : iprop(ctx m K ∗ C ∗ D ∗ R) ⊢ G) : iprop(ctx m K ∗ A ∗ B ∗ R) ⊢ G := by
  iintro ⟨#HX, HA, HB, HR⟩
  ihave HE := e $$ [HA HB]
  · isplitl [HA]; · iexact HA
    iexact HB
  icases HE with ⟨HC, HD⟩
  iapply h
  isplitr; · iexact HX
  isplitl [HC]; · iexact HC
  isplitl [HD]; · iexact HD
  iexact HR

/-- A program proved from resources and from what remains to be shown, as a rule with a continuation: one resource, -/
theorem rule1 (h : iprop(ctx m K ∗ A ∗ W) ⊢ G) : iprop(ctx m K ∗ A) ⊢ iprop(W -∗ G) := by
  iintro ⟨#HX, HA⟩ HW
  iapply h
  isplitr; · iexact HX
  isplitl [HA]; · iexact HA
  iexact HW
/-- two, -/
theorem rule2 (h : iprop(ctx m K ∗ A ∗ B ∗ W) ⊢ G) : iprop(ctx m K ∗ A ∗ B) ⊢ iprop(W -∗ G) := rule1 m K (flat m K h)
/-- three. -/
theorem rule3 (h : iprop(ctx m K ∗ A ∗ B ∗ C ∗ W) ⊢ G) : iprop(ctx m K ∗ A ∗ B ∗ C) ⊢ iprop(W -∗ G) :=
  rule2 m K (by
    iintro ⟨#HX, HA, ⟨HB, HC⟩, HR⟩
    iapply h
    isplitr; · iexact HX
    isplitl [HA]; · iexact HA
    isplitl [HB]; · iexact HB
    isplitl [HC]; · iexact HC
    iexact HR)

/-- The continuation is reached: one resource, -/
theorem end1 : iprop(ctx m K ∗ A ∗ (A -∗ G)) ⊢ G := by
  iintro ⟨-, HA, HW⟩
  iapply HW; iexact HA
/-- two, -/
theorem end2 : iprop(ctx m K ∗ A ∗ B ∗ ((A ∗ B) -∗ G)) ⊢ G := by
  iintro ⟨-, HA, HB, HW⟩
  iapply HW; isplitl [HA]; · iexact HA
  iexact HB
/-- three, -/
theorem end3 : iprop(ctx m K ∗ A ∗ B ∗ C ∗ ((A ∗ B ∗ C) -∗ G)) ⊢ G := by
  iintro ⟨-, HA, HB, HC, HW⟩
  iapply HW; isplitl [HA]; · iexact HA
  isplitl [HB]; · iexact HB
  iexact HC
/-- four. -/
theorem end4 : iprop(ctx m K ∗ A ∗ B ∗ C ∗ D ∗ ((A ∗ B ∗ C ∗ D) -∗ G)) ⊢ G := by
  iintro ⟨-, HA, HB, HC, HD, HW⟩
  iapply HW; isplitl [HA]; · iexact HA
  isplitl [HB]; · iexact HB
  isplitl [HC]; · iexact HC
  iexact HD

end Arrange

end Steps

end Cert.Moe

end
-- ==== Proof.Gather.lean ====
/-
# Slots put together and taken apart

Each device's exchange buffer has thirty-two slots: four of its own, and four received from each of the other seven
devices. Here are the lemmas by which a product over all slots becomes a product over the own ones and one over the
twenty-eight steps of a run, and by which the shares of the slots are put together.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTok)

variable {F : FTy → Type} [FloatOps F]

local notation "𝕄" => MT nD τ sig Unit (Elt F) ℕ UU ℕ

variable (m : (ℓ : Loc nD τ sig) → Buf (Elt F) ℓ) (K : Dev nD × CK → ℕ)

/-- A product of pairs. -/
theorem bigSep_two {ι : Type} (s : Finset ι) (Φ Ψ : ι → SP F) :
    (bigSep s fun i => iprop(Φ i ∗ Ψ i)) = iprop(bigSep s Φ ∗ bigSep s Ψ) := bigSep_sep s Φ Ψ

/-- A product over all devices: one device and the seven others. -/
theorem own_others (c : Dev nD) (Φ : Dev nD → SP F) :
    bigSep Finset.univ Φ = iprop(Φ c ∗ bigSep Finset.univ fun r => Φ (pd c r)) := by
  have hu : (Finset.univ.erase c : Finset (Dev nD)) = Finset.univ.map ⟨pd c, pd_inj c⟩ := by
    ext d
    simp only [Finset.mem_erase, Finset.mem_univ, and_true, Finset.mem_map, true_and, Function.Embedding.coeFn_mk]
    exact ⟨fun hd => pd_surj c d hd, fun ⟨r, hr⟩ => hr ▸ pd_ne c r⟩
  rw [bigSep_erase (Finset.mem_univ c), hu, bigSep_map]
  rfl

/-- A product over seven devices and four experts, in the order of a run. -/
theorem in_order (e : Fin 28 ≃ Fin 7 × Fin 4) (Φ : Fin 7 → Fin 4 → SP F) :
    (bigSep Finset.univ fun r => bigSep Finset.univ fun j => Φ r j) = bigSep Finset.univ fun i => Φ (e i).1 (e i).2 := by
  rw [← bigSep_univ_prod (fun p : Fin 7 × Fin 4 => Φ p.1 p.2), bigSep_univ_equiv e]

/-- A product over all slots: the own four, and the others in the order of a run. -/
theorem own_run (c : Dev nD) (e : Fin 28 ≃ Fin 7 × Fin 4) (Φ : Dev nD → Fin 4 → SP F) :
    (bigSep Finset.univ fun p : Dev nD × Fin 4 => Φ p.1 p.2)
      = iprop((bigSep Finset.univ fun j => Φ c j) ∗ bigSep Finset.univ fun i => Φ (pd c (e i).1) (e i).2) := by
  rw [bigSep_univ_prod, own_others c, in_order e]

/-- A slot's shares taken apart. -/
theorem slot_split (d s : Dev nD) (j : Fin 4) (f : S8x4x25x1024.Idx → Elt F .bf16) :
    slotPt (F := F) d s j fullShare f
      ⊢ iprop(slotPt d s j kept f ∗ bigSep Finset.univ fun r : Fin 7 => slotPt d s j (shareTok fullShare 7 r) f) := by
  unfold slotPt
  exact Transfers.pointsTo_toks_split fullShare 7
/-- and put together. -/
theorem slot_join (d s : Dev nD) (j : Fin 4) (f : S8x4x25x1024.Idx → Elt F .bf16) :
    iprop(slotPt d s j kept f ∗ bigSep Finset.univ fun r : Fin 7 => slotPt d s j (shareTok fullShare 7 r) f)
      ⊢ slotPt (F := F) d s j fullShare f := by
  unfold slotPt
  exact Transfers.pointsTo_toks_join fullShare 7

/-- The whole exchange buffer is its slots. -/
theorem slots_whole (d : Dev nD) (q : PosShare TreeShare) (f : S8x4x25x1024.Idx → Elt F .bf16) :
    ((((d : Thread nD τ).loc cc0_scratch2) ↦{q} (f : Buf (Elt F) ((d : Thread nD τ).loc cc0_scratch2))) : SP F)
      = bigSep Finset.univ fun p : Dev nD × Fin 4 => slotPt d p.1 p.2 q f := by
  unfold slotPt
  exact Ring.pointsTo_blocks (ℓ := (d : Thread nD τ).loc cc0_scratch2) (B := Dev nD × Fin 4)
    (fun p => (slotSet p.1 p.2 : Finset (Idx ((d : Thread nD τ).loc cc0_scratch2)))) slot_disjoint slot_cover
    (f : Buf (Elt F) ((d : Thread nD τ).loc cc0_scratch2))

section At
variable (c : Dev nD)

/-- The whole exchange buffer is the own slots and those received. -/
theorem slots_run (q : PosShare TreeShare) (f : S8x4x25x1024.Idx → Elt F .bf16) :
    ((((c : Thread nD τ).loc cc0_scratch2) ↦{q} (f : Buf (Elt F) ((c : Thread nD τ).loc cc0_scratch2))) : SP F)
      = iprop((bigSep Finset.univ fun j => slotPt c c j q f) ∗ bigSep Finset.univ fun i => slotPt c (pd c (rW i)) (jW i) q f) :=
  (slots_whole c q f).trans (own_run c waitOrd fun s j => slotPt c s j q f)

/-- What the receive waits leave besides the slots that are read. -/
def RDone : SP F :=
  iprop((bigSep Finset.univ fun i : Fin 28 => done m c (kRecv (pd c (rW i)) (jW i)))
    ∗ bigSep Finset.univ fun i : Fin 28 => bigSep Finset.univ fun r : Fin 7 =>
        slotPt c (pd c (rW i)) (jW i) (shareTok fullShare 7 r) (commV m))
/-- What the send waits leave. -/
def SDone : SP F :=
  iprop((bigSep Finset.univ fun i : Fin 28 => done m c (kSend (pd c (rS i)) (jS i)))
    ∗ bigSep Finset.univ fun i : Fin 28 => slotPt c c (jS i) (lent c (pd c (rS i))) (commV m))

/-- After the receive waits the exchange buffer is complete. -/
theorem gather :
    iprop(RW m c 28 ∗ bigSep Finset.univ fun j => slotPt c c j kept (commV m))
      ⊢ iprop(allKept m c ∗ owesE c (exitO c 0) ∗ RDone m c) := by
  unfold RW allKept RDone
  rw [slots_run, taken_all, bigSep_two Finset.univ]
  iintro ⟨⟨HO, -, Hd, Hs⟩, Hown⟩
  have h : (bigSep Finset.univ fun i : Fin 28 => slotPt (F := F) c (pd c (rW i)) (jW i) fullShare (commV m))
      ⊢ iprop((bigSep Finset.univ fun i : Fin 28 => slotPt c (pd c (rW i)) (jW i) kept (commV m))
        ∗ bigSep Finset.univ fun i : Fin 28 => bigSep Finset.univ fun r : Fin 7 =>
          slotPt c (pd c (rW i)) (jW i) (shareTok fullShare 7 r) (commV m)) := by
    rw [← bigSep_two]
    exact bigSep_mono fun i _ => slot_split c _ _ _
  ihave Hs := h $$ Hs
  icases Hs with ⟨Hk, Ht⟩
  isplitl [Hown Hk]
  · isplitl [Hown]; · iexact Hown
    iexact Hk
  isplitl [HO]; · iexact HO
  isplitl [Hd]; · iexact Hd
  iexact Ht

/-- After the send waits the exchange buffer is held whole again. -/
theorem ungather :
    iprop(allKept m c ∗ RDone m c ∗ SDone m c)
      ⊢ iprop((∃ f, ((c : Thread nD τ).loc cc0_scratch2) ↦{fullShare} f)
        ∗ (bigSep Finset.univ fun i : Fin 28 => done m c (kRecv (pd c (rW i)) (jW i)))
        ∗ bigSep Finset.univ fun i : Fin 28 => done m c (kSend (pd c (rS i)) (jS i))) := by
  unfold allKept RDone SDone
  rw [slots_run]
  iintro ⟨⟨Hown, Hk⟩, ⟨Hd, Ht⟩, Hd', Hl⟩
  have h1 : iprop((bigSep Finset.univ fun i : Fin 28 => slotPt (F := F) c (pd c (rW i)) (jW i) kept (commV m))
        ∗ bigSep Finset.univ fun i : Fin 28 => bigSep Finset.univ fun r : Fin 7 =>
          slotPt c (pd c (rW i)) (jW i) (shareTok fullShare 7 r) (commV m))
      ⊢ bigSep Finset.univ fun i : Fin 28 => slotPt c (pd c (rW i)) (jW i) fullShare (commV m) := by
    rw [← bigSep_two]
    exact bigSep_mono fun i _ => slot_join c _ _ _
  have h2 : (bigSep Finset.univ fun i : Fin 28 => slotPt (F := F) c c (jS i) (lent c (pd c (rS i))) (commV m))
      = bigSep Finset.univ fun j : Fin 4 => bigSep Finset.univ fun r : Fin 7 => slotPt c c j (shareTok fullShare 7 r) (commV m) := by
    simp only [lent_pd]
    rw [← bigSep_univ_comm, in_order sendOrd]
    rfl
  have h3 : iprop((bigSep Finset.univ fun j : Fin 4 => slotPt (F := F) c c j kept (commV m))
        ∗ bigSep Finset.univ fun j : Fin 4 => bigSep Finset.univ fun r : Fin 7 => slotPt c c j (shareTok fullShare 7 r) (commV m))
      ⊢ bigSep Finset.univ fun j : Fin 4 => slotPt c c j fullShare (commV m) := by
    rw [← bigSep_two]
    exact bigSep_mono fun j _ => slot_join c _ _ _
  isplitl [Hown Hk Ht Hl]
  · iexists (commV m : Buf (Elt F) ((c : Thread nD τ).loc cc0_scratch2))
    iapply (Entails.of_eq (slots_run c fullShare (commV m)).symm)
    isplitl [Hown Hl]
    · iapply h3
      isplitl [Hown]; · iexact Hown
      iapply (Entails.of_eq h2); iexact Hl
    · iapply h1
      isplitl [Hk]; · iexact Hk
      iexact Ht
  isplitl [Hd]; · iexact Hd
  iexact Hd'

end At

end Cert.Moe
-- ==== Proof.Parts.lean ====
/-
# The parts of the body

The body is printed in thirty-eight parts. Each has here one lemma, a rule with a continuation: from the states of
the runs before the part, and from what comes after it proved from the states after it, the part followed by what
comes after it. The words that the program computes for printed device numbers are not used and are arbitrary.
-/
module

public import proofs.«01_k».proof.Proof.Gather

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTok)

variable {F : FTy → Type} [FloatOps F]

local notation "𝕄" => MT nD τ sig Unit (Elt F) ℕ UU ℕ

variable (m : (ℓ : Loc nD τ sig) → Buf (Elt F) ℓ) (K : Dev nD × CK → ℕ)

/-- The staged route indices and the staged output, as the body sees them. -/
abbrev idxM : Memref sig .tc .vmem S1024x1 .i32 := Memref.whole cc0_stg0_0
abbrev outM : Memref sig .tc .vmem S1024x1024 .f32 := Memref.whole cc0_stg1_0

section Parts
variable (c : Dev nD) {α β : Type} {Q : β → SP F}
  (h0 : xH.IsWhole) (h1 : idxM.IsWhole) (h2 : wH.IsWhole) (h3 : outM.IsWhole) (h4 : xM.IsWhole) (h5 : wM.IsWhole) (h6 : commM.IsWhole)

/-- The credit of a transfer into any slot. -/
theorem credit_slot {off : Fin 4 → ℕ} (h : ∀ a, off a + S1x1x25x1024.size a ≤ S8x4x25x1024.size a) :
    ((commM.slice (Rect.unit (s := S8x4x25x1024) off S1x1x25x1024.size h) (fun _ => rfl)).squeeze S25x1024
      squeezes_S1x1x25x1024_S25x1024).view.dmaCredit = Ns := rfl

/-- The word of the device `n` places on. -/
abbrev nextW (c : Dev nD) (n : BitVec 32) : BitVec 32 := Scalar.remsi (Scalar.addi (word c) n) 8#32

/-! ## The copies, the barrier and the loads of the inputs -/

/-- Part 1: the copy of the tokens and of weight slice 0 start. -/
theorem part1 {k : (Σ' (d0 : Dev nD) (v2 : BitVec 32) (v4 : BitVec 32) (v6 : BitVec 32) (v8 : BitVec 32) (v10 : BitVec 32) (v12 : BitVec 32) (v14 : BitVec 32), BitVec 32) → Prog (TpuEff nD τ sig (Elt F) Λ₀ .tc) β} :
    iprop(ctx m K ∗ XC0 m c ∗ LW m c 0)
      ⊢ iprop((LW m c 1 ∗ cred (tallyAt (cell c kX) () Nx) -∗ Run c (k ⟨c, word c, nextW c 1#32, nextW c 2#32, nextW c 3#32, nextW c 4#32, nextW c 5#32, nextW c 6#32, nextW c 7#32⟩) Q)
        -∗ Run c (k0_part1 xH h0 idxM h1 wH h2 outM h3 xM h4 wM h5 commM h6 cc0_scratch3 cc0_scratch4 cc0_scratch5 cc0_scratch6 cc0_scoped0
            >>= k) Q) := by
  refine rule2 m K ?_
  rw [k0_part1_eq_skeleton]
  unfold k0_part1_skel
  simp only [semSignalWord, semWaitWord, Prog.lift, Prog.bind_op, Prog.bind_ret, Prog.pure_eq_ret, wp_deviceId]
  refine step_xcopy m K c x_sem ?_
  refine pull2 m K (step_wcopy m K c 0 (by decide) (w_sem rfl _) rfl ?_)
  exact end2 m K

/-- Part 2: the other weight copies start; four barrier signals. -/
theorem part2 (v4 v6 v8 v10 v12 : BitVec 32) {k : (Σ' (v41 : Sems sig S_) (v50 : BitVec 32), BitVec 32) → Prog (TpuEff nD τ sig (Elt F) Λ₀ .tc) β} :
    iprop(ctx m K ∗ LW m c 1 ∗ BS c 0)
      ⊢ iprop((BS c 4 ∗ LW m c 4 -∗ Run c (k ⟨SemArray.scalar (sig.barrier 0 rfl), Scalar.muli v12 1#32, 0#32⟩) Q)
        -∗ Run c (k0_part2 xH h0 idxM h1 wH h2 outM h3 xM h4 wM h5 commM h6 cc0_scratch3 cc0_scratch4 cc0_scratch5 cc0_scratch6 cc0_scoped0
            c v4 v6 v8 v10 v12 >>= k) Q) := by
  refine rule2 m K ?_
  rw [k0_part2_eq_skeleton]
  unfold k0_part2_skel
  simp only [semSignalWord, semWaitWord, Prog.lift, Prog.bind_op, Prog.bind_ret, Prog.pure_eq_ret, wp_deviceId]
  refine step_wcopy m K c 1 (by decide) (w_sem rfl _) rfl ?_
  refine step_wcopy m K c 2 (by decide) (w_sem rfl _) rfl ?_
  refine step_wcopy m K c 3 (by decide) (w_sem rfl _) rfl ?_
  refine pull2 m K ?_
  refine step_bar m K c 0 (by decide) (k0_dev1_eq c) bar_sem rfl ?_
  refine step_bar m K c 1 (by decide) (k0_dev2_eq c) bar_sem rfl ?_
  refine step_bar m K c 2 (by decide) (k0_dev3_eq c) bar_sem rfl ?_
  refine step_bar m K c 3 (by decide) (k0_dev4_eq c) bar_sem rfl ?_
  exact end2 m K

/-- Part 3: three barrier signals, the barrier wait, and the load of the experts. -/
theorem part3 (v14 v16 v50 c0 : BitVec 32) {k : (Σ' (v62 : FVec F S1024x32 .f32) (v86 : FVec F S1024x32 .f32), FVec F S1024x32 .f32) → Prog (TpuEff nD τ sig (Elt F) Λ₀ .tc) β} :
    iprop(ctx m K ∗ BS c 4 ∗ BW1 c ∗ idxPt m c)
      ⊢ iprop((idxPt m c ∗ BW2 m c -∗ Run c (k ⟨k0_pay1 (idxv m c), k0_pay2 (idxv m c), k0_pay3 (idxv m c)⟩) Q)
        -∗ Run c (k0_part3 xH h0 idxM h1 wH h2 outM h3 xM h4 wM h5 commM h6 cc0_scratch3 cc0_scratch4 cc0_scratch5 cc0_scratch6 cc0_scoped0
            c v14 v16 (SemArray.scalar (sig.barrier 0 rfl)) v50 c0 >>= k) Q) := by
  refine rule3 m K ?_
  rw [k0_part3_eq_skeleton]
  unfold k0_part3_skel
  simp only [semSignalWord, semWaitWord, Prog.lift, Prog.bind_op, Prog.bind_ret, Prog.pure_eq_ret, wp_deviceId]
  refine step_bar m K c 4 (by decide) (k0_dev5_eq c) bar_sem rfl ?_
  refine step_bar m K c 5 (by decide) (k0_dev6_eq c) bar_sem rfl ?_
  refine step_bar m K c 6 (by decide) (k0_dev7_eq c) bar_sem rfl ?_
  refine step_barwait m K c bar_sem rfl ?_
  refine pull2 m K (step_load_idx m K c ?_)
  exact end2 m K

/-- Part 4 computes. -/
theorem part4 (v2 : BitVec 32) (v62 v86 v89 : FVec F S1024x32 .f32) {k : (Σ' (v109 : FVec F S1024x32 .bf16) (v110 : IVec S32x100 32) (v136 : IVec S32x100 32), IVec S32x100 32) → Prog (TpuEff nD τ sig (Elt F) Λ₀ .tc) β} :
    Run c (k ⟨k0_pay4 v62 v86 v89, rows100, k0_pay5, k0_pay6 v2⟩) Q
      ⊢ Run c (k0_part4 xH h0 idxM h1 wH h2 outM h3 xM h4 wM h5 commM h6 cc0_scratch3 cc0_scratch4 cc0_scratch5 cc0_scratch6 cc0_scoped0
            v2 v62 v86 v89 >>= k) Q := by
  rw [k0_part4_eq_skeleton]
  unfold k0_part4_skel
  simp only [Prog.bind_ret, Prog.pure_eq_ret]
  exact .refl

/-- Part 5: the tokens and weight slice 0 have arrived. -/
theorem part5 {k : (Σ' (v170 : FVec F S100x512 .f32), FVec F S25x512 .f32) → Prog (TpuEff nD τ sig (Elt F) Λ₀ .tc) β} :
    iprop(ctx m K ∗ SS c 0 ∗ XC1 c ∗ WC1 c 0)
      ⊢ iprop((SS c 0 ∗ WC2 m c 0 ∗ XC2 m c -∗ Run c (k ⟨cx m c, cx0 m c⟩) Q)
        -∗ Run c (k0_part5 xH h0 idxM h1 wH h2 outM h3 xM h4 wM h5 commM h6 cc0_scratch3 cc0_scratch4 cc0_scratch5 cc0_scratch6 cc0_scoped0
            (slotW m c) rows100 k0_pay5 (k0_pay6 (word c)) >>= k) Q) := by
  refine rule3 m K ?_
  rw [k0_part5_eq_skeleton]
  unfold k0_part5_skel
  simp only [semSignalWord, semWaitWord, Prog.lift, Prog.bind_op, Prog.bind_ret, Prog.pure_eq_ret, wp_deviceId]
  refine step_xwait m K c 0 x_sem rfl ?_
  refine pull2 m K (step_load_x m K c ?_)
  refine pull3 m K (pull3 m K (step_wwait m K c 0 0 (w_sem rfl _) rfl ?_))
  exact end3 m K

/-- Row and column numbers of the 32 × 800 selection. -/
abbrev rows800 : IVec S32x800 32 := iota .tc S32x800 32 [0] iota_S32x800_d0_w32
abbrev cols800 : IVec S32x800 32 := iota .tc S32x800 32 [1] iota_S32x800_d1_w32

/-! ## The experts -/

/-- Part 6: expert 0 is computed and stored; transfers 0 and 1. -/
theorem part6 (v2 v4 v6 : BitVec 32) {k : PUnit → Prog (TpuEff nD τ sig (Elt F) Λ₀ .tc) β} :
    iprop(ctx m K ∗ SS c 0 ∗ WC2 m c 0 ∗ (∃ f, slotPt c c 0 fullShare f))
      ⊢ iprop((SS c 2 ∗ LentS m c 0 2 ∗ slotPt c c 0 kept (commV m) ∗ WC2 m c 0 -∗ Run c (k ⟨⟩) Q)
        -∗ Run c (k0_part6 xH h0 idxM h1 wH h2 outM h3 xM h4 wM h5 commM h6 cc0_scratch3 cc0_scratch4 cc0_scratch5 cc0_scratch6 cc0_scoped0
            c v2 v4 v6 (cx0 m c) >>= k) Q) := by
  refine rule3 m K ?_
  rw [k0_part6_eq_skeleton]
  unfold k0_part6_skel
  simp only [semSignalWord, semWaitWord, Prog.lift, Prog.bind_op, Prog.bind_ret, Prog.pure_eq_ret, wp_deviceId]
  refine pull2 m K (step_load_w m K c 0 rfl ?_)
  refine pull3 m K (step_load_own m K c c 0 (k0_off1_eq c) fun x => ?_)
  refine step_store_own m K c 0 (k0_off1_eq c) rfl (flat m K (pull2 m K (pull4 m K (pull2 m K (pull2 m K ?_)))))
  refine step_send m K c 0 (by decide) 0 (by decide) 0 rfl rfl (k0_dev8_eq c) (send_sem (k0_off2_eq c 0) _) (recv_sem (k0_off3_eq c) _) (k0_off4_eq c) ?_
  refine step_send m K c 1 (by decide) 1 (by decide) 0 rfl rfl (k0_dev9_eq c) (send_sem (k0_off2_eq c 1) _) (recv_sem (k0_off3_eq c) _) (k0_off4_eq c) ?_
  exact end4 m K

/-- Part 7: transfers 2 and 3. -/
theorem part7 (v8 v10 v12 : BitVec 32) {k : PUnit → Prog (TpuEff nD τ sig (Elt F) Λ₀ .tc) β} :
    iprop(ctx m K ∗ SS c 2 ∗ LentS m c 0 2)
      ⊢ iprop((SS c 4 ∗ LentS m c 0 4 -∗ Run c (k ⟨⟩) Q)
        -∗ Run c (k0_part7 xH h0 idxM h1 wH h2 outM h3 xM h4 wM h5 commM h6 cc0_scratch3 cc0_scratch4 cc0_scratch5 cc0_scratch6 cc0_scoped0
            c v8 v10 v12 >>= k) Q) := by
  refine rule2 m K ?_
  rw [k0_part7_eq_skeleton]
  unfold k0_part7_skel
  simp only [semSignalWord, semWaitWord, Prog.lift, Prog.bind_op, Prog.bind_ret, Prog.pure_eq_ret, wp_deviceId]
  refine step_send m K c 2 (by decide) 2 (by decide) 0 rfl rfl (k0_dev10_eq c) (send_sem (k0_off2_eq c 2) _) (recv_sem (k0_off3_eq c) _) (k0_off4_eq c) ?_
  refine step_send m K c 3 (by decide) 3 (by decide) 0 rfl rfl (k0_dev11_eq c) (send_sem (k0_off2_eq c 3) _) (recv_sem (k0_off3_eq c) _) (k0_off4_eq c) ?_
  exact end2 m K

/-- Part 8: transfers 4 to 6; weight slice 1 has arrived. -/
theorem part8 (v14 v16 : BitVec 32) {k : (FVec F S25x512 .f32) → Prog (TpuEff nD τ sig (Elt F) Λ₀ .tc) β} :
    iprop(ctx m K ∗ SS c 4 ∗ LentS m c 0 4 ∗ WC1 c 1)
      ⊢ iprop((SS c 7 ∗ WC2 m c 1 ∗ LentS m c 0 7 -∗ Run c (k (k0_pay10 (cx m c))) Q)
        -∗ Run c (k0_part8 xH h0 idxM h1 wH h2 outM h3 xM h4 wM h5 commM h6 cc0_scratch3 cc0_scratch4 cc0_scratch5 cc0_scratch6 cc0_scoped0
            c v14 v16 (cx m c) >>= k) Q) := by
  refine rule3 m K ?_
  rw [k0_part8_eq_skeleton]
  unfold k0_part8_skel
  simp only [semSignalWord, semWaitWord, Prog.lift, Prog.bind_op, Prog.bind_ret, Prog.pure_eq_ret, wp_deviceId]
  refine step_send m K c 4 (by decide) 4 (by decide) 0 rfl rfl (k0_dev12_eq c) (send_sem (k0_off2_eq c 4) _) (recv_sem (k0_off3_eq c) _) (k0_off4_eq c) ?_
  refine step_send m K c 5 (by decide) 5 (by decide) 0 rfl rfl (k0_dev13_eq c) (send_sem (k0_off2_eq c 5) _) (recv_sem (k0_off3_eq c) _) (k0_off4_eq c) ?_
  refine step_send m K c 6 (by decide) 6 (by decide) 0 rfl rfl (k0_dev14_eq c) (send_sem (k0_off2_eq c 6) _) (recv_sem (k0_off3_eq c) _) (k0_off4_eq c) ?_
  refine pull3 m K (pull2 m K (step_wwait m K c 1 7 (w_sem rfl _) rfl ?_))
  exact end3 m K

/-- Part 9: expert 1 is computed and stored; transfers 7 and 8. -/
theorem part9 (v2 v4 v6 : BitVec 32) {k : PUnit → Prog (TpuEff nD τ sig (Elt F) Λ₀ .tc) β} :
    iprop(ctx m K ∗ SS c 7 ∗ WC2 m c 1 ∗ (∃ f, slotPt c c 1 fullShare f))
      ⊢ iprop((SS c 9 ∗ LentS m c 1 2 ∗ slotPt c c 1 kept (commV m) ∗ WC2 m c 1 -∗ Run c (k ⟨⟩) Q)
        -∗ Run c (k0_part9 xH h0 idxM h1 wH h2 outM h3 xM h4 wM h5 commM h6 cc0_scratch3 cc0_scratch4 cc0_scratch5 cc0_scratch6 cc0_scoped0
            c v2 v4 v6 (k0_pay10 (cx m c)) >>= k) Q) := by
  refine rule3 m K ?_
  rw [k0_part9_eq_skeleton]
  unfold k0_part9_skel
  simp only [semSignalWord, semWaitWord, Prog.lift, Prog.bind_op, Prog.bind_ret, Prog.pure_eq_ret, wp_deviceId]
  refine pull2 m K (step_load_w m K c 1 rfl ?_)
  refine pull3 m K (step_load_own m K c c 1 (k0_off5_eq c) fun x => ?_)
  refine step_store_own m K c 1 (k0_off5_eq c) rfl (flat m K (pull2 m K (pull4 m K (pull2 m K (pull2 m K ?_)))))
  refine step_send m K c 7 (by decide) 0 (by decide) 1 rfl rfl (k0_dev15_eq c) (send_sem (k0_off6_eq c 0) _) (recv_sem (k0_off7_eq c) _) (k0_off8_eq c) ?_
  refine step_send m K c 8 (by decide) 1 (by decide) 1 rfl rfl (k0_dev16_eq c) (send_sem (k0_off6_eq c 1) _) (recv_sem (k0_off7_eq c) _) (k0_off8_eq c) ?_
  exact end4 m K

/-- Part 10: transfers 9 to 11. -/
theorem part10 (v8 v10 v12 : BitVec 32) {k : PUnit → Prog (TpuEff nD τ sig (Elt F) Λ₀ .tc) β} :
    iprop(ctx m K ∗ SS c 9 ∗ LentS m c 1 2)
      ⊢ iprop((SS c 12 ∗ LentS m c 1 5 -∗ Run c (k ⟨⟩) Q)
        -∗ Run c (k0_part10 xH h0 idxM h1 wH h2 outM h3 xM h4 wM h5 commM h6 cc0_scratch3 cc0_scratch4 cc0_scratch5 cc0_scratch6 cc0_scoped0
            c v8 v10 v12 >>= k) Q) := by
  refine rule2 m K ?_
  rw [k0_part10_eq_skeleton]
  unfold k0_part10_skel
  simp only [semSignalWord, semWaitWord, Prog.lift, Prog.bind_op, Prog.bind_ret, Prog.pure_eq_ret, wp_deviceId]
  refine step_send m K c 9 (by decide) 2 (by decide) 1 rfl rfl (k0_dev17_eq c) (send_sem (k0_off6_eq c 2) _) (recv_sem (k0_off7_eq c) _) (k0_off8_eq c) ?_
  refine step_send m K c 10 (by decide) 3 (by decide) 1 rfl rfl (k0_dev18_eq c) (send_sem (k0_off6_eq c 3) _) (recv_sem (k0_off7_eq c) _) (k0_off8_eq c) ?_
  refine step_send m K c 11 (by decide) 4 (by decide) 1 rfl rfl (k0_dev19_eq c) (send_sem (k0_off6_eq c 4) _) (recv_sem (k0_off7_eq c) _) (k0_off8_eq c) ?_
  exact end2 m K

/-- Part 11: transfers 12 and 13; weight slice 2 has arrived and is loaded. -/
theorem part11 (v14 v16 : BitVec 32) {k : (Σ' (v347 : FVec F S25x512 .f32), Vec F S1x512x1024 .f32) → Prog (TpuEff nD τ sig (Elt F) Λ₀ .tc) β} :
    iprop(ctx m K ∗ SS c 12 ∗ LentS m c 1 5 ∗ WC1 c 2)
      ⊢ iprop((WC2 m c 2 ∗ SS c 14 ∗ LentS m c 1 7 -∗ Run c (k ⟨k0_pay12 (cx m c), wv m c 2⟩) Q)
        -∗ Run c (k0_part11 xH h0 idxM h1 wH h2 outM h3 xM h4 wM h5 commM h6 cc0_scratch3 cc0_scratch4 cc0_scratch5 cc0_scratch6 cc0_scoped0
            c v14 v16 (cx m c) >>= k) Q) := by
  refine rule3 m K ?_
  rw [k0_part11_eq_skeleton]
  unfold k0_part11_skel
  simp only [semSignalWord, semWaitWord, Prog.lift, Prog.bind_op, Prog.bind_ret, Prog.pure_eq_ret, wp_deviceId]
  refine step_send m K c 12 (by decide) 5 (by decide) 1 rfl rfl (k0_dev20_eq c) (send_sem (k0_off6_eq c 5) _) (recv_sem (k0_off7_eq c) _) (k0_off8_eq c) ?_
  refine step_send m K c 13 (by decide) 6 (by decide) 1 rfl rfl (k0_dev21_eq c) (send_sem (k0_off6_eq c 6) _) (recv_sem (k0_off7_eq c) _) (k0_off8_eq c) ?_
  refine pull3 m K (pull2 m K (step_wwait m K c 2 14 (w_sem rfl _) rfl ?_))
  refine pull2 m K (step_load_w m K c 2 rfl ?_)
  exact end3 m K

/-- Part 12: expert 2 is computed and stored; transfers 14 and 15. -/
theorem part12 (v2 v4 v6 v8 : BitVec 32) {k : (BitVec 32) → Prog (TpuEff nD τ sig (Elt F) Λ₀ .tc) β} :
    iprop(ctx m K ∗ SS c 14 ∗ (∃ f, slotPt c c 2 fullShare f))
      ⊢ iprop((SS c 16 ∗ LentS m c 2 2 ∗ slotPt c c 2 kept (commV m) -∗ Run c (k (Scalar.muli v8 1#32)) Q)
        -∗ Run c (k0_part12 xH h0 idxM h1 wH h2 outM h3 xM h4 wM h5 commM h6 cc0_scratch3 cc0_scratch4 cc0_scratch5 cc0_scratch6 cc0_scoped0
            c v2 v4 v6 v8 (k0_pay12 (cx m c)) (wv m c 2) >>= k) Q) := by
  refine rule2 m K ?_
  rw [k0_part12_eq_skeleton]
  unfold k0_part12_skel
  simp only [semSignalWord, semWaitWord, Prog.lift, Prog.bind_op, Prog.bind_ret, Prog.pure_eq_ret, wp_deviceId]
  refine pull2 m K (step_load_own m K c c 2 (k0_off9_eq c) fun x => ?_)
  refine step_store_own m K c 2 (k0_off9_eq c) rfl (flat m K (pull3 m K (pull3 m K (pull2 m K ?_))))
  refine step_send m K c 14 (by decide) 0 (by decide) 2 rfl rfl (k0_dev22_eq c) (send_sem (k0_off10_eq c 0) _) (recv_sem (k0_off11_eq c) _) (k0_off12_eq c) ?_
  refine step_send m K c 15 (by decide) 1 (by decide) 2 rfl rfl (k0_dev23_eq c) (send_sem (k0_off10_eq c 1) _) (recv_sem (k0_off11_eq c) _) (k0_off12_eq c) ?_
  exact end3 m K

/-- Part 13: transfers 16 to 18. -/
theorem part13 (v10 v12 v376 : BitVec 32) {k : PUnit → Prog (TpuEff nD τ sig (Elt F) Λ₀ .tc) β} :
    iprop(ctx m K ∗ SS c 16 ∗ LentS m c 2 2)
      ⊢ iprop((SS c 19 ∗ LentS m c 2 5 -∗ Run c (k ⟨⟩) Q)
        -∗ Run c (k0_part13 xH h0 idxM h1 wH h2 outM h3 xM h4 wM h5 commM h6 cc0_scratch3 cc0_scratch4 cc0_scratch5 cc0_scratch6 cc0_scoped0
            c v10 v12 v376 >>= k) Q) := by
  refine rule2 m K ?_
  rw [k0_part13_eq_skeleton]
  unfold k0_part13_skel
  simp only [semSignalWord, semWaitWord, Prog.lift, Prog.bind_op, Prog.bind_ret, Prog.pure_eq_ret, wp_deviceId]
  refine step_send m K c 16 (by decide) 2 (by decide) 2 rfl rfl (k0_dev24_eq c) (send_sem (k0_off10_eq c 2) _) (recv_sem (k0_off11_eq c) _) (k0_off12_eq c) ?_
  refine step_send m K c 17 (by decide) 3 (by decide) 2 rfl rfl (k0_dev25_eq c) (send_sem (k0_off10_eq c 3) _) (recv_sem (k0_off11_eq c) _) (k0_off12_eq c) ?_
  refine step_send m K c 18 (by decide) 4 (by decide) 2 rfl rfl (k0_dev26_eq c) (send_sem (k0_off10_eq c 4) _) (recv_sem (k0_off11_eq c) _) (k0_off12_eq c) ?_
  exact end2 m K

/-- Part 14: transfers 19 and 20; weight slice 3 has arrived and is loaded. -/
theorem part14 (v14 v16 : BitVec 32) {k : (Σ' (v432 : FVec F S25x512 .f32) (v434 : FVec F S512x1024 .f32), FVec F S25x1024 .f32) → Prog (TpuEff nD τ sig (Elt F) Λ₀ .tc) β} :
    iprop(ctx m K ∗ SS c 19 ∗ LentS m c 2 5 ∗ WC1 c 3)
      ⊢ iprop((WC2 m c 3 ∗ SS c 21 ∗ LentS m c 2 7 -∗ Run c (k ⟨k0_pay14 (cx m c), k0_pay15 (wv m c 3), constant S25x1024 .f32 0x00000000#32⟩) Q)
        -∗ Run c (k0_part14 xH h0 idxM h1 wH h2 outM h3 xM h4 wM h5 commM h6 cc0_scratch3 cc0_scratch4 cc0_scratch5 cc0_scratch6 cc0_scoped0
            c v14 v16 (cx m c) >>= k) Q) := by
  refine rule3 m K ?_
  rw [k0_part14_eq_skeleton]
  unfold k0_part14_skel
  simp only [semSignalWord, semWaitWord, Prog.lift, Prog.bind_op, Prog.bind_ret, Prog.pure_eq_ret, wp_deviceId]
  refine step_send m K c 19 (by decide) 5 (by decide) 2 rfl rfl (k0_dev27_eq c) (send_sem (k0_off10_eq c 5) _) (recv_sem (k0_off11_eq c) _) (k0_off12_eq c) ?_
  refine step_send m K c 20 (by decide) 6 (by decide) 2 rfl rfl (k0_dev28_eq c) (send_sem (k0_off10_eq c 6) _) (recv_sem (k0_off11_eq c) _) (k0_off12_eq c) ?_
  refine pull3 m K (pull2 m K (step_wwait m K c 3 21 (w_sem rfl _) rfl ?_))
  refine pull2 m K (step_load_w m K c 3 rfl ?_)
  exact end3 m K

/-- Part 15: expert 3 is computed and stored; transfers 21 and 22. -/
theorem part15 (v2 v4 v6 v8 : BitVec 32) {k : PUnit → Prog (TpuEff nD τ sig (Elt F) Λ₀ .tc) β} :
    iprop(ctx m K ∗ SS c 21 ∗ (∃ f, slotPt c c 3 fullShare f))
      ⊢ iprop((SS c 23 ∗ LentS m c 3 2 ∗ slotPt c c 3 kept (commV m) -∗ Run c (k ⟨⟩) Q)
        -∗ Run c (k0_part15 xH h0 idxM h1 wH h2 outM h3 xM h4 wM h5 commM h6 cc0_scratch3 cc0_scratch4 cc0_scratch5 cc0_scratch6 cc0_scoped0
            c v2 v4 v6 v8 (k0_pay14 (cx m c)) (k0_pay15 (wv m c 3)) (constant S25x1024 .f32 0x00000000#32) >>= k) Q) := by
  refine rule2 m K ?_
  rw [k0_part15_eq_skeleton]
  unfold k0_part15_skel
  simp only [semSignalWord, semWaitWord, Prog.lift, Prog.bind_op, Prog.bind_ret, Prog.pure_eq_ret, wp_deviceId]
  refine pull2 m K (step_load_own m K c c 3 (k0_off13_eq c) fun x => ?_)
  refine step_store_own m K c 3 (k0_off13_eq c) rfl (flat m K (pull3 m K (pull3 m K (pull2 m K ?_))))
  refine step_send m K c 21 (by decide) 0 (by decide) 3 rfl rfl (k0_dev29_eq c) (send_sem (k0_off14_eq c 0) _) (recv_sem (k0_off15_eq c) _) (k0_off16_eq c) ?_
  refine step_send m K c 22 (by decide) 1 (by decide) 3 rfl rfl (k0_dev30_eq c) (send_sem (k0_off14_eq c 1) _) (recv_sem (k0_off15_eq c) _) (k0_off16_eq c) ?_
  exact end3 m K

/-- Part 16: transfers 23 to 25. -/
theorem part16 (v10 v12 : BitVec 32) {k : (BitVec 32) → Prog (TpuEff nD τ sig (Elt F) Λ₀ .tc) β} :
    iprop(ctx m K ∗ SS c 23 ∗ LentS m c 3 2)
      ⊢ iprop((SS c 26 ∗ LentS m c 3 5 -∗ Run c (k 1#32) Q)
        -∗ Run c (k0_part16 xH h0 idxM h1 wH h2 outM h3 xM h4 wM h5 commM h6 cc0_scratch3 cc0_scratch4 cc0_scratch5 cc0_scratch6 cc0_scoped0
            c v10 v12 >>= k) Q) := by
  refine rule2 m K ?_
  rw [k0_part16_eq_skeleton]
  unfold k0_part16_skel
  simp only [semSignalWord, semWaitWord, Prog.lift, Prog.bind_op, Prog.bind_ret, Prog.pure_eq_ret, wp_deviceId]
  refine step_send m K c 23 (by decide) 2 (by decide) 3 rfl rfl (k0_dev31_eq c) (send_sem (k0_off14_eq c 2) _) (recv_sem (k0_off15_eq c) _) (k0_off16_eq c) ?_
  refine step_send m K c 24 (by decide) 3 (by decide) 3 rfl rfl (k0_dev32_eq c) (send_sem (k0_off14_eq c 3) _) (recv_sem (k0_off15_eq c) _) (k0_off16_eq c) ?_
  refine step_send m K c 25 (by decide) 4 (by decide) 3 rfl rfl (k0_dev33_eq c) (send_sem (k0_off14_eq c 4) _) (recv_sem (k0_off15_eq c) _) (k0_off16_eq c) ?_
  exact end2 m K

/-- Part 17: transfers 26 and 27. -/
theorem part17 (v14 v16 c1 : BitVec 32) {k : (Σ' (v511 : IVec S32x800 32) (v512 : IVec S32x800 32) (c25_i32_419 : BitVec 32) (v514 : IVec S32x800 32), IVec S32x800 1) → Prog (TpuEff nD τ sig (Elt F) Λ₀ .tc) β} :
    iprop(ctx m K ∗ SS c 26 ∗ LentS m c 3 5)
      ⊢ iprop((SS c 28 ∗ LentS m c 3 7 -∗ Run c (k ⟨rows800, cols800, 25#32, k0_pay17, k0_pay18⟩) Q)
        -∗ Run c (k0_part17 xH h0 idxM h1 wH h2 outM h3 xM h4 wM h5 commM h6 cc0_scratch3 cc0_scratch4 cc0_scratch5 cc0_scratch6 cc0_scoped0
            c v14 v16 c1 >>= k) Q) := by
  refine rule2 m K ?_
  rw [k0_part17_eq_skeleton]
  unfold k0_part17_skel
  simp only [semSignalWord, semWaitWord, Prog.lift, Prog.bind_op, Prog.bind_ret, Prog.pure_eq_ret, wp_deviceId]
  refine step_send m K c 26 (by decide) 5 (by decide) 3 rfl rfl (k0_dev34_eq c) (send_sem (k0_off14_eq c 5) _) (recv_sem (k0_off15_eq c) _) (k0_off16_eq c) ?_
  refine step_send m K c 27 (by decide) 6 (by decide) 3 rfl rfl (k0_dev35_eq c) (send_sem (k0_off14_eq c 6) _) (recv_sem (k0_off15_eq c) _) (k0_off16_eq c) ?_
  exact end2 m K

/-- Part 18 computes. -/
theorem part18 (v4 : BitVec 32) (v109 : FVec F S1024x32 .bf16) (v511 v512 : IVec S32x800 32) (c25 : BitVec 32) (v514 : IVec S32x800 32) (v528 : IVec S32x800 1) {k : (FVec F S1024x800 .bf16) → Prog (TpuEff nD τ sig (Elt F) Λ₀ .tc) β} :
    Run c (k (k0_pay19 v109 v511 v512 c25 v514 v528)) Q
      ⊢ Run c (k0_part18 xH h0 idxM h1 wH h2 outM h3 xM h4 wM h5 commM h6 cc0_scratch3 cc0_scratch4 cc0_scratch5 cc0_scratch6 cc0_scoped0
            c v4 v109 v511 v512 c25 v514 v528 >>= k) Q := by
  rw [k0_part18_eq_skeleton]
  unfold k0_part18_skel
  simp only [Prog.bind_ret, Prog.pure_eq_ret]
  exact .refl

/-! ## The receive waits and the output -/

/-- Part 19: receive waits 0 to 2. -/
theorem part19 (v4 : BitVec 32) {k : PUnit → Prog (TpuEff nD τ sig (Elt F) Λ₀ .tc) β} :
    iprop(ctx m K ∗ RW m c 0)
      ⊢ iprop((RW m c 3 -∗ Run c (k ⟨⟩) Q)
        -∗ Run c (k0_part19 xH h0 idxM h1 wH h2 outM h3 xM h4 wM h5 commM h6 cc0_scratch3 cc0_scratch4 cc0_scratch5 cc0_scratch6 cc0_scoped0
            c v4 >>= k) Q) := by
  refine rule1 m K ?_
  rw [k0_part19_eq_skeleton]
  unfold k0_part19_skel
  simp only [semSignalWord, semWaitWord, Prog.lift, Prog.bind_op, Prog.bind_ret, Prog.pure_eq_ret, wp_deviceId]
  refine step_recv m K c 0 (by decide) (recv_sem (k0_off2_eq c 0) _) (credit_slot _) ?_
  refine step_recv m K c 1 (by decide) (recv_sem (k0_off6_eq c 0) _) (credit_slot _) ?_
  refine step_recv m K c 2 (by decide) (recv_sem (k0_off10_eq c 0) _) (credit_slot _) ?_
  exact end1 m K

/-- Part 20: receive waits 3 to 6. -/
theorem part20 (v6 : BitVec 32) {k : PUnit → Prog (TpuEff nD τ sig (Elt F) Λ₀ .tc) β} :
    iprop(ctx m K ∗ RW m c 3)
      ⊢ iprop((RW m c 7 -∗ Run c (k ⟨⟩) Q)
        -∗ Run c (k0_part20 xH h0 idxM h1 wH h2 outM h3 xM h4 wM h5 commM h6 cc0_scratch3 cc0_scratch4 cc0_scratch5 cc0_scratch6 cc0_scoped0
            c v6 >>= k) Q) := by
  refine rule1 m K ?_
  rw [k0_part20_eq_skeleton]
  unfold k0_part20_skel
  simp only [semSignalWord, semWaitWord, Prog.lift, Prog.bind_op, Prog.bind_ret, Prog.pure_eq_ret, wp_deviceId]
  refine step_recv m K c 3 (by decide) (recv_sem (k0_off14_eq c 0) _) (credit_slot _) ?_
  refine step_recv m K c 4 (by decide) (recv_sem (k0_off2_eq c 1) _) (credit_slot _) ?_
  refine step_recv m K c 5 (by decide) (recv_sem (k0_off6_eq c 1) _) (credit_slot _) ?_
  refine step_recv m K c 6 (by decide) (recv_sem (k0_off10_eq c 1) _) (credit_slot _) ?_
  exact end1 m K

/-- Part 21: receive waits 7 to 9. -/
theorem part21 (v6 v8 : BitVec 32) {k : PUnit → Prog (TpuEff nD τ sig (Elt F) Λ₀ .tc) β} :
    iprop(ctx m K ∗ RW m c 7)
      ⊢ iprop((RW m c 10 -∗ Run c (k ⟨⟩) Q)
        -∗ Run c (k0_part21 xH h0 idxM h1 wH h2 outM h3 xM h4 wM h5 commM h6 cc0_scratch3 cc0_scratch4 cc0_scratch5 cc0_scratch6 cc0_scoped0
            c v6 v8 >>= k) Q) := by
  refine rule1 m K ?_
  rw [k0_part21_eq_skeleton]
  unfold k0_part21_skel
  simp only [semSignalWord, semWaitWord, Prog.lift, Prog.bind_op, Prog.bind_ret, Prog.pure_eq_ret, wp_deviceId]
  refine step_recv m K c 7 (by decide) (recv_sem (k0_off14_eq c 1) _) (credit_slot _) ?_
  refine step_recv m K c 8 (by decide) (recv_sem (k0_off2_eq c 2) _) (credit_slot _) ?_
  refine step_recv m K c 9 (by decide) (recv_sem (k0_off6_eq c 2) _) (credit_slot _) ?_
  exact end1 m K

/-- Part 22: receive waits 10 to 12. -/
theorem part22 (v8 v10 : BitVec 32) {k : (BitVec 32) → Prog (TpuEff nD τ sig (Elt F) Λ₀ .tc) β} :
    iprop(ctx m K ∗ RW m c 10)
      ⊢ iprop((RW m c 13 -∗ Run c (k (Scalar.muli v10 1#32)) Q)
        -∗ Run c (k0_part22 xH h0 idxM h1 wH h2 outM h3 xM h4 wM h5 commM h6 cc0_scratch3 cc0_scratch4 cc0_scratch5 cc0_scratch6 cc0_scoped0
            c v8 v10 >>= k) Q) := by
  refine rule1 m K ?_
  rw [k0_part22_eq_skeleton]
  unfold k0_part22_skel
  simp only [semSignalWord, semWaitWord, Prog.lift, Prog.bind_op, Prog.bind_ret, Prog.pure_eq_ret, wp_deviceId]
  refine step_recv m K c 10 (by decide) (recv_sem (k0_off10_eq c 2) _) (credit_slot _) ?_
  refine step_recv m K c 11 (by decide) (recv_sem (k0_off14_eq c 2) _) (credit_slot _) ?_
  refine step_recv m K c 12 (by decide) (recv_sem (k0_off2_eq c 3) _) (credit_slot _) ?_
  exact end1 m K

/-- Part 23: receive waits 13 to 15. -/
theorem part23 (v10 v12 v670 : BitVec 32) {k : PUnit → Prog (TpuEff nD τ sig (Elt F) Λ₀ .tc) β} :
    iprop(ctx m K ∗ RW m c 13)
      ⊢ iprop((RW m c 16 -∗ Run c (k ⟨⟩) Q)
        -∗ Run c (k0_part23 xH h0 idxM h1 wH h2 outM h3 xM h4 wM h5 commM h6 cc0_scratch3 cc0_scratch4 cc0_scratch5 cc0_scratch6 cc0_scoped0
            c v10 v12 v670 >>= k) Q) := by
  refine rule1 m K ?_
  rw [k0_part23_eq_skeleton]
  unfold k0_part23_skel
  simp only [semSignalWord, semWaitWord, Prog.lift, Prog.bind_op, Prog.bind_ret, Prog.pure_eq_ret, wp_deviceId]
  refine step_recv m K c 13 (by decide) (recv_sem (k0_off6_eq c 3) _) (credit_slot _) ?_
  refine step_recv m K c 14 (by decide) (recv_sem (k0_off10_eq c 3) _) (credit_slot _) ?_
  refine step_recv m K c 15 (by decide) (recv_sem (k0_off14_eq c 3) _) (credit_slot _) ?_
  exact end1 m K

/-- Part 24: receive waits 16 to 18. -/
theorem part24 (v12 : BitVec 32) {k : PUnit → Prog (TpuEff nD τ sig (Elt F) Λ₀ .tc) β} :
    iprop(ctx m K ∗ RW m c 16)
      ⊢ iprop((RW m c 19 -∗ Run c (k ⟨⟩) Q)
        -∗ Run c (k0_part24 xH h0 idxM h1 wH h2 outM h3 xM h4 wM h5 commM h6 cc0_scratch3 cc0_scratch4 cc0_scratch5 cc0_scratch6 cc0_scoped0
            c v12 >>= k) Q) := by
  refine rule1 m K ?_
  rw [k0_part24_eq_skeleton]
  unfold k0_part24_skel
  simp only [semSignalWord, semWaitWord, Prog.lift, Prog.bind_op, Prog.bind_ret, Prog.pure_eq_ret, wp_deviceId]
  refine step_recv m K c 16 (by decide) (recv_sem (k0_off2_eq c 4) _) (credit_slot _) ?_
  refine step_recv m K c 17 (by decide) (recv_sem (k0_off6_eq c 4) _) (credit_slot _) ?_
  refine step_recv m K c 18 (by decide) (recv_sem (k0_off10_eq c 4) _) (credit_slot _) ?_
  exact end1 m K

/-- Part 25: receive waits 19 to 21. -/
theorem part25 (v14 : BitVec 32) {k : PUnit → Prog (TpuEff nD τ sig (Elt F) Λ₀ .tc) β} :
    iprop(ctx m K ∗ RW m c 19)
      ⊢ iprop((RW m c 22 -∗ Run c (k ⟨⟩) Q)
        -∗ Run c (k0_part25 xH h0 idxM h1 wH h2 outM h3 xM h4 wM h5 commM h6 cc0_scratch3 cc0_scratch4 cc0_scratch5 cc0_scratch6 cc0_scoped0
            c v14 >>= k) Q) := by
  refine rule1 m K ?_
  rw [k0_part25_eq_skeleton]
  unfold k0_part25_skel
  simp only [semSignalWord, semWaitWord, Prog.lift, Prog.bind_op, Prog.bind_ret, Prog.pure_eq_ret, wp_deviceId]
  refine step_recv m K c 19 (by decide) (recv_sem (k0_off14_eq c 4) _) (credit_slot _) ?_
  refine step_recv m K c 20 (by decide) (recv_sem (k0_off2_eq c 5) _) (credit_slot _) ?_
  refine step_recv m K c 21 (by decide) (recv_sem (k0_off6_eq c 5) _) (credit_slot _) ?_
  exact end1 m K

/-- Part 26: receive waits 22 to 24. -/
theorem part26 (v14 v16 : BitVec 32) {k : PUnit → Prog (TpuEff nD τ sig (Elt F) Λ₀ .tc) β} :
    iprop(ctx m K ∗ RW m c 22)
      ⊢ iprop((RW m c 25 -∗ Run c (k ⟨⟩) Q)
        -∗ Run c (k0_part26 xH h0 idxM h1 wH h2 outM h3 xM h4 wM h5 commM h6 cc0_scratch3 cc0_scratch4 cc0_scratch5 cc0_scratch6 cc0_scoped0
            c v14 v16 >>= k) Q) := by
  refine rule1 m K ?_
  rw [k0_part26_eq_skeleton]
  unfold k0_part26_skel
  simp only [semSignalWord, semWaitWord, Prog.lift, Prog.bind_op, Prog.bind_ret, Prog.pure_eq_ret, wp_deviceId]
  refine step_recv m K c 22 (by decide) (recv_sem (k0_off10_eq c 5) _) (credit_slot _) ?_
  refine step_recv m K c 23 (by decide) (recv_sem (k0_off14_eq c 5) _) (credit_slot _) ?_
  refine step_recv m K c 24 (by decide) (recv_sem (k0_off2_eq c 6) _) (credit_slot _) ?_
  exact end1 m K

/-- Part 27: the last receive waits; the first three slots are loaded. -/
theorem part27 (v16 : BitVec 32) {k : (Σ' (v791 : FVec F S25x1024 .bf16) (v793 : FVec F S25x1024 .bf16), FVec F S25x1024 .bf16) → Prog (TpuEff nD τ sig (Elt F) Λ₀ .tc) β} :
    iprop(ctx m K ∗ RW m c 25 ∗ (bigSep Finset.univ fun j => slotPt c c j kept (commV m)))
      ⊢ iprop((allKept m c ∗ (owesE c (exitO c 0) ∗ RDone m c) -∗ Run c (k ⟨k0_pay20 (blk m 0 0), k0_pay21 (blk m 0 1), k0_pay22 (blk m 0 2)⟩) Q)
        -∗ Run c (k0_part27 xH h0 idxM h1 wH h2 outM h3 xM h4 wM h5 commM h6 cc0_scratch3 cc0_scratch4 cc0_scratch5 cc0_scratch6 cc0_scoped0
            c v16 >>= k) Q) := by
  refine rule2 m K ?_
  rw [k0_part27_eq_skeleton]
  unfold k0_part27_skel
  simp only [semSignalWord, semWaitWord, Prog.lift, Prog.bind_op, Prog.bind_ret, Prog.pure_eq_ret, wp_deviceId]
  refine step_recv m K c 25 (by decide) (recv_sem (k0_off6_eq c 6) _) (credit_slot _) ?_
  refine step_recv m K c 26 (by decide) (recv_sem (k0_off10_eq c 6) _) (credit_slot _) ?_
  refine step_recv m K c 27 (by decide) (recv_sem (k0_off14_eq c 6) _) (credit_slot _) ?_
  refine conv m K (gather m c) ?_
  refine step_load_slot m K c 0 0 rfl ?_
  refine step_load_slot m K c 0 1 rfl ?_
  refine step_load_slot m K c 0 2 rfl ?_
  exact end2 m K

/-- Part 28: ten slots are loaded, -/
theorem part28 {k : (Σ' (v797 : FVec F S25x1024 .bf16) (v799 : FVec F S25x1024 .bf16) (v801 : FVec F S25x1024 .bf16) (v803 : FVec F S25x1024 .bf16) (v805 : FVec F S25x1024 .bf16) (v807 : FVec F S25x1024 .bf16) (v809 : FVec F S25x1024 .bf16) (v811 : FVec F S25x1024 .bf16) (v813 : FVec F S25x1024 .bf16), FVec F S25x1024 .bf16) → Prog (TpuEff nD τ sig (Elt F) Λ₀ .tc) β} :
    iprop(ctx m K ∗ allKept m c)
      ⊢ iprop((allKept m c -∗ Run c (k ⟨k0_pay23 (blk m 0 3), k0_pay24 (blk m 1 0), k0_pay25 (blk m 1 1), k0_pay26 (blk m 1 2), k0_pay27 (blk m 1 3), k0_pay28 (blk m 2 0), k0_pay29 (blk m 2 1), k0_pay30 (blk m 2 2), k0_pay31 (blk m 2 3), k0_pay32 (blk m 3 0)⟩) Q)
        -∗ Run c (k0_part28 xH h0 idxM h1 wH h2 outM h3 xM h4 wM h5 commM h6 cc0_scratch3 cc0_scratch4 cc0_scratch5 cc0_scratch6 cc0_scoped0
            >>= k) Q) := by
  refine rule1 m K ?_
  rw [k0_part28_eq_skeleton]
  unfold k0_part28_skel
  simp only [semSignalWord, semWaitWord, Prog.lift, Prog.bind_op, Prog.bind_ret, Prog.pure_eq_ret, wp_deviceId]
  refine step_load_slot m K c 0 3 rfl ?_
  refine step_load_slot m K c 1 0 rfl ?_
  refine step_load_slot m K c 1 1 rfl ?_
  refine step_load_slot m K c 1 2 rfl ?_
  refine step_load_slot m K c 1 3 rfl ?_
  refine step_load_slot m K c 2 0 rfl ?_
  refine step_load_slot m K c 2 1 rfl ?_
  refine step_load_slot m K c 2 2 rfl ?_
  refine step_load_slot m K c 2 3 rfl ?_
  refine step_load_slot m K c 3 0 rfl ?_
  exact end1 m K

/-- part 29: ten more, -/
theorem part29 {k : (Σ' (v817 : FVec F S25x1024 .bf16) (v819 : FVec F S25x1024 .bf16) (v821 : FVec F S25x1024 .bf16) (v823 : FVec F S25x1024 .bf16) (v825 : FVec F S25x1024 .bf16) (v827 : FVec F S25x1024 .bf16) (v829 : FVec F S25x1024 .bf16) (v831 : FVec F S25x1024 .bf16) (v833 : FVec F S25x1024 .bf16), FVec F S25x1024 .bf16) → Prog (TpuEff nD τ sig (Elt F) Λ₀ .tc) β} :
    iprop(ctx m K ∗ allKept m c)
      ⊢ iprop((allKept m c -∗ Run c (k ⟨k0_pay33 (blk m 3 1), k0_pay34 (blk m 3 2), k0_pay35 (blk m 3 3), k0_pay36 (blk m 4 0), k0_pay37 (blk m 4 1), k0_pay38 (blk m 4 2), k0_pay39 (blk m 4 3), k0_pay40 (blk m 5 0), k0_pay41 (blk m 5 1), k0_pay42 (blk m 5 2)⟩) Q)
        -∗ Run c (k0_part29 xH h0 idxM h1 wH h2 outM h3 xM h4 wM h5 commM h6 cc0_scratch3 cc0_scratch4 cc0_scratch5 cc0_scratch6 cc0_scoped0
            >>= k) Q) := by
  refine rule1 m K ?_
  rw [k0_part29_eq_skeleton]
  unfold k0_part29_skel
  simp only [semSignalWord, semWaitWord, Prog.lift, Prog.bind_op, Prog.bind_ret, Prog.pure_eq_ret, wp_deviceId]
  refine step_load_slot m K c 3 1 rfl ?_
  refine step_load_slot m K c 3 2 rfl ?_
  refine step_load_slot m K c 3 3 rfl ?_
  refine step_load_slot m K c 4 0 rfl ?_
  refine step_load_slot m K c 4 1 rfl ?_
  refine step_load_slot m K c 4 2 rfl ?_
  refine step_load_slot m K c 4 3 rfl ?_
  refine step_load_slot m K c 5 0 rfl ?_
  refine step_load_slot m K c 5 1 rfl ?_
  refine step_load_slot m K c 5 2 rfl ?_
  exact end1 m K

/-- and part 30: the last nine, and the output is stored. -/
theorem part30 (v565 : FVec F S1024x800 .bf16) (v791 v793 v795 v797 v799 v801 v803 v805 v807 v809 v811 v813 v815 v817 v819 v821 v823 v825 v827 v829 v831 v833 v835 : FVec F S25x1024 .bf16)
    (f : (cc0_stg1_0 : Ref sig .tc).ty.Contents (Elt F)) {k : PUnit → Prog (TpuEff nD τ sig (Elt F) Λ₀ .tc) β} :
    iprop(ctx m K ∗ allKept m c ∗ outPt c f)
      ⊢ iprop((outPt c (k0_pay43 v565 v791 v793 v795 v797 v799 v801 v803 v805 v807 v809 v811 v813 v815 v817 v819 v821 v823 v825 v827 v829 v831 v833 v835
          (blk m 5 3) (blk m 6 0) (blk m 6 1) (blk m 6 2) (blk m 6 3) (blk m 7 0) (blk m 7 1) (blk m 7 2) (blk m 7 3)) ∗ allKept m c -∗ Run c (k ⟨⟩) Q)
        -∗ Run c (k0_part30 xH h0 idxM h1 wH h2 outM h3 xM h4 wM h5 commM h6 cc0_scratch3 cc0_scratch4 cc0_scratch5 cc0_scratch6 cc0_scoped0
            v565 v791 v793 v795 v797 v799 v801 v803 v805 v807 v809 v811 v813 v815 v817 v819 v821 v823 v825 v827 v829 v831 v833 v835 >>= k) Q) := by
  refine rule2 m K ?_
  rw [k0_part30_eq_skeleton]
  unfold k0_part30_skel
  simp only [semSignalWord, semWaitWord, Prog.lift, Prog.bind_op, Prog.bind_ret, Prog.pure_eq_ret, wp_deviceId]
  refine step_load_slot m K c 5 3 rfl ?_
  refine step_load_slot m K c 6 0 rfl ?_
  refine step_load_slot m K c 6 1 rfl ?_
  refine step_load_slot m K c 6 2 rfl ?_
  refine step_load_slot m K c 6 3 rfl ?_
  refine step_load_slot m K c 7 0 rfl ?_
  refine step_load_slot m K c 7 1 rfl ?_
  refine step_load_slot m K c 7 2 rfl ?_
  refine step_load_slot m K c 7 3 rfl ?_
  refine pull2 m K (step_load_out m K c f fun x => ?_)
  refine step_store_out m K c f _ ?_
  exact end2 m K

/-! ## The send waits and the exit -/

/-- Part 31: send waits 0 to 2. -/
theorem part31 {k : PUnit → Prog (TpuEff nD τ sig (Elt F) Λ₀ .tc) β} :
    iprop(ctx m K ∗ SW m c 0)
      ⊢ iprop((SW m c 3 -∗ Run c (k ⟨⟩) Q)
        -∗ Run c (k0_part31 xH h0 idxM h1 wH h2 outM h3 xM h4 wM h5 commM h6 cc0_scratch3 cc0_scratch4 cc0_scratch5 cc0_scratch6 cc0_scoped0
            c >>= k) Q) := by
  refine rule1 m K ?_
  rw [k0_part31_eq_skeleton]
  unfold k0_part31_skel
  simp only [semSignalWord, semWaitWord, Prog.lift, Prog.bind_op, Prog.bind_ret, Prog.pure_eq_ret, wp_deviceId]
  refine step_sent m K c 0 (by decide) (send_sem (k0_off2_eq c 0) _) (credit_slot _) ?_
  refine step_sent m K c 1 (by decide) (send_sem (k0_off2_eq c 1) _) (credit_slot _) ?_
  refine step_sent m K c 2 (by decide) (send_sem (k0_off2_eq c 2) _) (credit_slot _) ?_
  exact end1 m K

/-- Part 32: send waits 3 to 6. -/
theorem part32 {k : PUnit → Prog (TpuEff nD τ sig (Elt F) Λ₀ .tc) β} :
    iprop(ctx m K ∗ SW m c 3)
      ⊢ iprop((SW m c 7 -∗ Run c (k ⟨⟩) Q)
        -∗ Run c (k0_part32 xH h0 idxM h1 wH h2 outM h3 xM h4 wM h5 commM h6 cc0_scratch3 cc0_scratch4 cc0_scratch5 cc0_scratch6 cc0_scoped0
            c >>= k) Q) := by
  refine rule1 m K ?_
  rw [k0_part32_eq_skeleton]
  unfold k0_part32_skel
  simp only [semSignalWord, semWaitWord, Prog.lift, Prog.bind_op, Prog.bind_ret, Prog.pure_eq_ret, wp_deviceId]
  refine step_sent m K c 3 (by decide) (send_sem (k0_off2_eq c 3) _) (credit_slot _) ?_
  refine step_sent m K c 4 (by decide) (send_sem (k0_off2_eq c 4) _) (credit_slot _) ?_
  refine step_sent m K c 5 (by decide) (send_sem (k0_off2_eq c 5) _) (credit_slot _) ?_
  refine step_sent m K c 6 (by decide) (send_sem (k0_off2_eq c 6) _) (credit_slot _) ?_
  exact end1 m K

/-- Part 33: send waits 7 to 10. -/
theorem part33 {k : PUnit → Prog (TpuEff nD τ sig (Elt F) Λ₀ .tc) β} :
    iprop(ctx m K ∗ SW m c 7)
      ⊢ iprop((SW m c 11 -∗ Run c (k ⟨⟩) Q)
        -∗ Run c (k0_part33 xH h0 idxM h1 wH h2 outM h3 xM h4 wM h5 commM h6 cc0_scratch3 cc0_scratch4 cc0_scratch5 cc0_scratch6 cc0_scoped0
            c >>= k) Q) := by
  refine rule1 m K ?_
  rw [k0_part33_eq_skeleton]
  unfold k0_part33_skel
  simp only [semSignalWord, semWaitWord, Prog.lift, Prog.bind_op, Prog.bind_ret, Prog.pure_eq_ret, wp_deviceId]
  refine step_sent m K c 7 (by decide) (send_sem (k0_off6_eq c 0) _) (credit_slot _) ?_
  refine step_sent m K c 8 (by decide) (send_sem (k0_off6_eq c 1) _) (credit_slot _) ?_
  refine step_sent m K c 9 (by decide) (send_sem (k0_off6_eq c 2) _) (credit_slot _) ?_
  refine step_sent m K c 10 (by decide) (send_sem (k0_off6_eq c 3) _) (credit_slot _) ?_
  exact end1 m K

/-- Part 34: send waits 11 to 14. -/
theorem part34 {k : PUnit → Prog (TpuEff nD τ sig (Elt F) Λ₀ .tc) β} :
    iprop(ctx m K ∗ SW m c 11)
      ⊢ iprop((SW m c 15 -∗ Run c (k ⟨⟩) Q)
        -∗ Run c (k0_part34 xH h0 idxM h1 wH h2 outM h3 xM h4 wM h5 commM h6 cc0_scratch3 cc0_scratch4 cc0_scratch5 cc0_scratch6 cc0_scoped0
            c >>= k) Q) := by
  refine rule1 m K ?_
  rw [k0_part34_eq_skeleton]
  unfold k0_part34_skel
  simp only [semSignalWord, semWaitWord, Prog.lift, Prog.bind_op, Prog.bind_ret, Prog.pure_eq_ret, wp_deviceId]
  refine step_sent m K c 11 (by decide) (send_sem (k0_off6_eq c 4) _) (credit_slot _) ?_
  refine step_sent m K c 12 (by decide) (send_sem (k0_off6_eq c 5) _) (credit_slot _) ?_
  refine step_sent m K c 13 (by decide) (send_sem (k0_off6_eq c 6) _) (credit_slot _) ?_
  refine step_sent m K c 14 (by decide) (send_sem (k0_off10_eq c 0) _) (credit_slot _) ?_
  exact end1 m K

/-- Part 35: send waits 15 to 17. -/
theorem part35 {k : PUnit → Prog (TpuEff nD τ sig (Elt F) Λ₀ .tc) β} :
    iprop(ctx m K ∗ SW m c 15)
      ⊢ iprop((SW m c 18 -∗ Run c (k ⟨⟩) Q)
        -∗ Run c (k0_part35 xH h0 idxM h1 wH h2 outM h3 xM h4 wM h5 commM h6 cc0_scratch3 cc0_scratch4 cc0_scratch5 cc0_scratch6 cc0_scoped0
            c >>= k) Q) := by
  refine rule1 m K ?_
  rw [k0_part35_eq_skeleton]
  unfold k0_part35_skel
  simp only [semSignalWord, semWaitWord, Prog.lift, Prog.bind_op, Prog.bind_ret, Prog.pure_eq_ret, wp_deviceId]
  refine step_sent m K c 15 (by decide) (send_sem (k0_off10_eq c 1) _) (credit_slot _) ?_
  refine step_sent m K c 16 (by decide) (send_sem (k0_off10_eq c 2) _) (credit_slot _) ?_
  refine step_sent m K c 17 (by decide) (send_sem (k0_off10_eq c 3) _) (credit_slot _) ?_
  exact end1 m K

/-- Part 36: send waits 18 to 21. -/
theorem part36 {k : PUnit → Prog (TpuEff nD τ sig (Elt F) Λ₀ .tc) β} :
    iprop(ctx m K ∗ SW m c 18)
      ⊢ iprop((SW m c 22 -∗ Run c (k ⟨⟩) Q)
        -∗ Run c (k0_part36 xH h0 idxM h1 wH h2 outM h3 xM h4 wM h5 commM h6 cc0_scratch3 cc0_scratch4 cc0_scratch5 cc0_scratch6 cc0_scoped0
            c >>= k) Q) := by
  refine rule1 m K ?_
  rw [k0_part36_eq_skeleton]
  unfold k0_part36_skel
  simp only [semSignalWord, semWaitWord, Prog.lift, Prog.bind_op, Prog.bind_ret, Prog.pure_eq_ret, wp_deviceId]
  refine step_sent m K c 18 (by decide) (send_sem (k0_off10_eq c 4) _) (credit_slot _) ?_
  refine step_sent m K c 19 (by decide) (send_sem (k0_off10_eq c 5) _) (credit_slot _) ?_
  refine step_sent m K c 20 (by decide) (send_sem (k0_off10_eq c 6) _) (credit_slot _) ?_
  refine step_sent m K c 21 (by decide) (send_sem (k0_off14_eq c 0) _) (credit_slot _) ?_
  exact end1 m K

/-- Part 37: send waits 22 to 25. -/
theorem part37 {k : PUnit → Prog (TpuEff nD τ sig (Elt F) Λ₀ .tc) β} :
    iprop(ctx m K ∗ SW m c 22)
      ⊢ iprop((SW m c 26 -∗ Run c (k ⟨⟩) Q)
        -∗ Run c (k0_part37 xH h0 idxM h1 wH h2 outM h3 xM h4 wM h5 commM h6 cc0_scratch3 cc0_scratch4 cc0_scratch5 cc0_scratch6 cc0_scoped0
            c >>= k) Q) := by
  refine rule1 m K ?_
  rw [k0_part37_eq_skeleton]
  unfold k0_part37_skel
  simp only [semSignalWord, semWaitWord, Prog.lift, Prog.bind_op, Prog.bind_ret, Prog.pure_eq_ret, wp_deviceId]
  refine step_sent m K c 22 (by decide) (send_sem (k0_off14_eq c 1) _) (credit_slot _) ?_
  refine step_sent m K c 23 (by decide) (send_sem (k0_off14_eq c 2) _) (credit_slot _) ?_
  refine step_sent m K c 24 (by decide) (send_sem (k0_off14_eq c 3) _) (credit_slot _) ?_
  refine step_sent m K c 25 (by decide) (send_sem (k0_off14_eq c 4) _) (credit_slot _) ?_
  exact end1 m K

/-- The exit duties still to be discharged. -/
def XT (c : Dev nD) : SP F := bigSep Finset.univ fun r => dutyTok ER (cell (pd c r) kExit) 0 c

/-- The send waits done, the exit signals can start. -/
theorem to_exit : iprop(SW m c 28 ∗ XT c) ⊢ iprop(XS c 0 ∗ SDone m c) := by
  unfold SW XT XS SDone
  rw [taken_all, still_zero, bigSep_two Finset.univ]
  iintro ⟨⟨HO, -, Hd, Hs⟩, HT⟩
  isplitl [HO HT]
  · isplitl [HO]; · iexact HO
    iexact HT
  isplitl [Hd]; · iexact Hd
  iexact Hs

/-- Part 38: the last send waits and five exit signals. -/
theorem part38 (v4 v6 v8 v10 v12 v14 : BitVec 32) {k : (Σ' (v1036_r0 : BitVec 32), BitVec 32) → Prog (TpuEff nD τ sig (Elt F) Λ₀ .tc) β} :
    iprop(ctx m K ∗ SW m c 26 ∗ XT c)
      ⊢ iprop((XS c 5 ∗ SDone m c -∗ Run c (k ⟨Scalar.muli v14 1#32, 0#32⟩) Q)
        -∗ Run c (k0_part38 xH h0 idxM h1 wH h2 outM h3 xM h4 wM h5 commM h6 cc0_scratch3 cc0_scratch4 cc0_scratch5 cc0_scratch6 cc0_scoped0
            c v4 v6 v8 v10 v12 v14 >>= k) Q) := by
  refine rule2 m K ?_
  rw [k0_part38_eq_skeleton]
  unfold k0_part38_skel
  simp only [semSignalWord, semWaitWord, Prog.lift, Prog.bind_op, Prog.bind_ret, Prog.pure_eq_ret, wp_deviceId]
  refine step_sent m K c 26 (by decide) (send_sem (k0_off14_eq c 5) _) (credit_slot _) ?_
  refine step_sent m K c 27 (by decide) (send_sem (k0_off14_eq c 6) _) (credit_slot _) ?_
  refine conv m K (to_exit m c) ?_
  refine step_exit m K c 0 (by decide) (k0_dev36_eq c) exit_sem rfl ?_
  refine step_exit m K c 1 (by decide) (k0_dev37_eq c) exit_sem rfl ?_
  refine step_exit m K c 2 (by decide) (k0_dev38_eq c) exit_sem rfl ?_
  refine step_exit m K c 3 (by decide) (k0_dev39_eq c) exit_sem rfl ?_
  refine step_exit m K c 4 (by decide) (k0_dev40_eq c) exit_sem rfl ?_
  exact end2 m K

end Parts

end Cert.Moe
-- ==== Proof.Body.lean ====
/-
# The body

The parts one after another: from what the launch gives a device, the body runs and leaves every cell of the device
past its duties, the arguments as they were and the output staged.
-/
module

public import proofs.«01_k».proof.Proof.Parts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTok)

variable {F : FTy → Type} [FloatOps F]

local notation "𝕄" => MT nD τ sig Unit (Elt F) ℕ UU ℕ

variable (m : (ℓ : Loc nD τ sig) → Buf (Elt F) ℓ) (K : Dev nD × CK → ℕ)

/-- What a device stores as its output. -/
def outV (c : Dev nD) : FVec F S1024x1024 .f32 :=
  k0_pay43 (k0_pay19 (slotW m c) rows800 cols800 25#32 k0_pay17 k0_pay18)
    (k0_pay20 (blk m 0 0)) (k0_pay21 (blk m 0 1)) (k0_pay22 (blk m 0 2)) (k0_pay23 (blk m 0 3)) (k0_pay24 (blk m 1 0)) (k0_pay25 (blk m 1 1)) (k0_pay26 (blk m 1 2)) (k0_pay27 (blk m 1 3)) (k0_pay28 (blk m 2 0)) (k0_pay29 (blk m 2 1)) (k0_pay30 (blk m 2 2)) (k0_pay31 (blk m 2 3)) (k0_pay32 (blk m 3 0)) (k0_pay33 (blk m 3 1)) (k0_pay34 (blk m 3 2)) (k0_pay35 (blk m 3 3)) (k0_pay36 (blk m 4 0)) (k0_pay37 (blk m 4 1)) (k0_pay38 (blk m 4 2)) (k0_pay39 (blk m 4 3)) (k0_pay40 (blk m 5 0)) (k0_pay41 (blk m 5 1)) (k0_pay42 (blk m 5 2))
    (blk m 5 3) (blk m 6 0) (blk m 6 1) (blk m 6 2) (blk m 6 3) (blk m 7 0) (blk m 7 1) (blk m 7 2) (blk m 7 3)

section Body
variable (c : Dev nD) {Q : PUnit → SP F}
  (h0 : xH.IsWhole) (h1 : idxM.IsWhole) (h2 : wH.IsWhole) (h3 : outM.IsWhole) (h4 : xM.IsWhole) (h5 : wM.IsWhole) (h6 : commM.IsWhole)

/-- The duties of the transfers, in their order. -/
def STok : SP F := bigSep Finset.univ fun i : Fin 28 =>
  iprop(dutyTok ER (cell c (kSend (pd c (rS i)) (jS i))) 0 c ∗ dutyTok ER (cell (pd c (rS i)) (kRecv c (jS i))) 0 c)
/-- The places and credits of the receive waits, in their order; -/
def RAt : SP F := bigSep Finset.univ fun i : Fin 28 =>
  iprop(atPos ER (cell c (kRecv (pd c (rW i)) (jW i))) 0 ∅ 0 ∗ cred (tallyAt (cell c (kRecv (pd c (rW i)) (jW i))) () Ns))
/-- the places of the send waits. -/
def SAt : SP F := bigSep Finset.univ fun i : Fin 28 => atPos ER (cell c (kSend (pd c (rS i)) (jS i))) 0 ∅ 0
/-- The places of the weight copies. -/
def WAt : SP F := bigSep Finset.univ fun j : Fin 4 => atPos ER (cell c (kW j)) 0 ∅ 0

/-- After the barrier wait the transfers can start. -/
theorem to_send :
    iprop(owesE c (exitO c 0 + sendO c 0) ∗ STok c ∗ bigSep Finset.univ fun r => landing (pd c r) c) ⊢ SS (F := F) c 0 := by
  have hl : (bigSep Finset.univ fun r => landing (F := F) (pd c r) c)
      = bigSep Finset.univ fun i : Fin 28 => iprop(∃ f, slotPt (pd c (rS i)) c (jS i) fullShare f) := by
    unfold landing
    rw [in_order sendOrd fun r j => iprop(∃ f, slotPt (F := F) (pd c r) c j fullShare f)]
    rfl
  unfold STok SS
  rw [hl, still_zero, taken_zero, bigSep_two Finset.univ, bigSep_two Finset.univ, bigSep_two Finset.univ]
  iintro ⟨HO, ⟨Ht, Ht'⟩, Hl⟩
  isplitl [HO]; · iexact HO
  isplitl [Ht Ht' Hl]
  · isplitl [Ht]; · iexact Ht
    isplitl [Ht']; · iexact Ht'
    iexact Hl
  rw [bigSep_empty]
  iempintro

/-- The transfers done, the receive waits can start; the credits of the send waits are kept. -/
theorem to_recv :
    iprop(SS c 28 ∗ RAt c) ⊢ iprop(RW m c 0 ∗ bigSep Finset.univ fun i : Fin 28 => cred (tallyAt (cell c (kSend (pd c (rS i)) (jS i))) () Ns)) := by
  unfold SS RAt RW
  rw [taken_all, taken_zero, still_zero, sendO_end, add_zero, bigSep_empty]
  iintro ⟨⟨HO, -, Hc⟩, HA⟩
  isplitl [HO HA]
  · isplitl [HO]; · iexact HO
    isplitl [HA]; · iexact HA
    iempintro
  iexact Hc

/-- The output stored, the send waits can start. -/
theorem to_sent :
    iprop(owesE c (exitO c 0) ∗ SAt c ∗ bigSep Finset.univ fun i : Fin 28 => cred (tallyAt (cell c (kSend (pd c (rS i)) (jS i))) () Ns))
      ⊢ SW m c 0 := by
  unfold SAt SW
  rw [taken_zero, still_zero, bigSep_empty, bigSep_two Finset.univ]
  iintro ⟨HO, HA, Hc⟩
  isplitl [HO]; · iexact HO
  isplitl [HA Hc]
  · isplitl [HA]; · iexact HA
    iexact Hc
  iempintro

omit [FloatOps F] in
theorem univ4 : (Finset.univ : Finset (Fin 4)) = {0, 1, 2, 3} := by decide

/-- A product over the four experts, written out. -/
theorem bigSep4 (Φ : Fin 4 → SP F) : bigSep Finset.univ Φ = iprop(Φ 0 ∗ Φ 1 ∗ Φ 2 ∗ Φ 3) := by
  rw [univ4, bigSep_insert (by decide), bigSep_insert (by decide), bigSep_insert (by decide), bigSep_singleton]
  rfl

/-- The weight copies started, each can be waited for. -/
theorem to_weights : iprop(LW m c 4 ∗ WAt c) ⊢ iprop(WC1 c 0 ∗ WC1 c 1 ∗ WC1 c 2 ∗ WC1 (F := F) c 3) := by
  unfold LW WAt WC1
  rw [taken_all, bigSep4, bigSep4]
  iintro ⟨⟨-, H0, H1, H2, H3⟩, A0, A1, A2, A3⟩
  isplitl [H0 A0]
  · isplitl [A0]; · iexact A0
    iexact H0
  isplitl [H1 A1]
  · isplitl [A1]; · iexact A1
    iexact H1
  isplitl [H2 A2]
  · isplitl [A2]; · iexact A2
    iexact H2
  isplitl [A3]; · iexact A3
  iexact H3

/-- What the body starts from. -/
def bodyIn (f : (cc0_stg1_0 : Ref sig .tc).ty.Contents (Elt F)) : SP F :=
  iprop(XC0 m c ∗ LW m c 0 ∗ BS c 0 ∗ BW1 c ∗ idxPt m c ∗ outPt c f ∗ atPos ER (cell c kX) 0 ∅ 0 ∗ WAt c ∗ STok c ∗ RAt c ∗ SAt c
    ∗ XT c ∗ EW1 c ∗ landing c c)
/-- What it leaves. -/
def bodyOut : SP F :=
  iprop(EW2 m c ∗ done m c kBar ∗ XC2 m c ∗ (bigSep Finset.univ fun j => WC2 m c j) ∗ idxPt m c ∗ outPt c (outV m c)
    ∗ allKept m c ∗ RDone m c ∗ SDone m c)

set_option maxHeartbeats 1000000 in
/-- The body runs. -/
theorem body_run (f : (cc0_stg1_0 : Ref sig .tc).ty.Contents (Elt F)) :
    iprop(ctx m K ∗ bodyIn m c f)
      ⊢ Run c (cc0_body xH h0 idxM h1 wH h2 outM h3 xM h4 wM h5 commM h6 cc0_scratch3 cc0_scratch4 cc0_scratch5 cc0_scratch6 cc0_scoped0) (fun _ => bodyOut m c) := by
  rw [cc0_body_eq_skeleton]
  unfold cc0_body_skel bodyIn landing
  rw [bigSep4]
  iintro ⟨#HX, Hx, HW, HB, HBW, Hi, Ho, Hax, HwA, HsT, HrA, HsA, HXT, HEW, O0, O1, O2, O3⟩
  iapply (part1 m K c h0 h1 h2 h3 h4 h5 h6) $$ [Hx HW]
  · isplitr; · iexact HX
    isplitl [Hx]; · iexact Hx
    iexact HW
  iintro ⟨HW, Hcx⟩
  dsimp only
  iapply (part2 m K c h0 h1 h2 h3 h4 h5 h6 _ _ _ _ _) $$ [HW HB]
  · isplitr; · iexact HX
    isplitl [HW]; · iexact HW
    iexact HB
  iintro ⟨HB, HW⟩
  dsimp only
  iapply (part3 m K c h0 h1 h2 h3 h4 h5 h6 _ _ _ _) $$ [HB HBW Hi]
  · isplitr; · iexact HX
    isplitl [HB]; · iexact HB
    isplitl [HBW]; · iexact HBW
    iexact Hi
  iintro ⟨Hi, HB⟩
  dsimp only
  unfold BW2
  icases HB with ⟨HO, Hdb, Hl⟩
  ihave HS := (to_send (F := F) c) $$ [HO HsT Hl]
  · isplitl [HO]; · iexact HO
    isplitl [HsT]; · iexact HsT
    iexact Hl
  ihave HW := (to_weights m c) $$ [HW HwA]
  · isplitl [HW]; · iexact HW
    iexact HwA
  icases HW with ⟨W0, W1, W2, W3⟩
  iapply (part4 c h0 h1 h2 h3 h4 h5 h6 _ _ _ _)
  dsimp only
  ihave Hx : XC1 c $$ [Hax Hcx]
  · unfold XC1
    isplitl [Hax]; · iexact Hax
    iexact Hcx
  iapply (part5 m K c h0 h1 h2 h3 h4 h5 h6) $$ [HS Hx W0]
  · isplitr; · iexact HX
    isplitl [HS]; · iexact HS
    isplitl [Hx]; · iexact Hx
    iexact W0
  iintro ⟨HS, W0, Hx⟩
  dsimp only
  iapply (part6 m K c h0 h1 h2 h3 h4 h5 h6 _ _ _) $$ [HS W0 O0]
  · isplitr; · iexact HX
    isplitl [HS]; · iexact HS
    isplitl [W0]; · iexact W0
    iexact O0
  iintro ⟨HS, L0, O0, W0⟩
  iapply (part7 m K c h0 h1 h2 h3 h4 h5 h6 _ _ _) $$ [HS L0]
  · isplitr; · iexact HX
    isplitl [HS]; · iexact HS
    iexact L0
  iintro ⟨HS, L0⟩
  iapply (part8 m K c h0 h1 h2 h3 h4 h5 h6 _ _) $$ [HS L0 W1]
  · isplitr; · iexact HX
    isplitl [HS]; · iexact HS
    isplitl [L0]; · iexact L0
    iexact W1
  iintro ⟨HS, W1, -⟩
  iapply (part9 m K c h0 h1 h2 h3 h4 h5 h6 _ _ _) $$ [HS W1 O1]
  · isplitr; · iexact HX
    isplitl [HS]; · iexact HS
    isplitl [W1]; · iexact W1
    iexact O1
  iintro ⟨HS, L1, O1, W1⟩
  iapply (part10 m K c h0 h1 h2 h3 h4 h5 h6 _ _ _) $$ [HS L1]
  · isplitr; · iexact HX
    isplitl [HS]; · iexact HS
    iexact L1
  iintro ⟨HS, L1⟩
  iapply (part11 m K c h0 h1 h2 h3 h4 h5 h6 _ _) $$ [HS L1 W2]
  · isplitr; · iexact HX
    isplitl [HS]; · iexact HS
    isplitl [L1]; · iexact L1
    iexact W2
  iintro ⟨W2, HS, -⟩
  dsimp only
  iapply (part12 m K c h0 h1 h2 h3 h4 h5 h6 _ _ _ _) $$ [HS O2]
  · isplitr; · iexact HX
    isplitl [HS]; · iexact HS
    iexact O2
  iintro ⟨HS, L2, O2⟩
  iapply (part13 m K c h0 h1 h2 h3 h4 h5 h6 _ _ _) $$ [HS L2]
  · isplitr; · iexact HX
    isplitl [HS]; · iexact HS
    iexact L2
  iintro ⟨HS, L2⟩
  iapply (part14 m K c h0 h1 h2 h3 h4 h5 h6 _ _) $$ [HS L2 W3]
  · isplitr; · iexact HX
    isplitl [HS]; · iexact HS
    isplitl [L2]; · iexact L2
    iexact W3
  iintro ⟨W3, HS, -⟩
  dsimp only
  iapply (part15 m K c h0 h1 h2 h3 h4 h5 h6 _ _ _ _) $$ [HS O3]
  · isplitr; · iexact HX
    isplitl [HS]; · iexact HS
    iexact O3
  iintro ⟨HS, L3, O3⟩
  iapply (part16 m K c h0 h1 h2 h3 h4 h5 h6 _ _) $$ [HS L3]
  · isplitr; · iexact HX
    isplitl [HS]; · iexact HS
    iexact L3
  iintro ⟨HS, L3⟩
  iapply (part17 m K c h0 h1 h2 h3 h4 h5 h6 _ _ _) $$ [HS L3]
  · isplitr; · iexact HX
    isplitl [HS]; · iexact HS
    iexact L3
  iintro ⟨HS, -⟩
  dsimp only
  iapply (part18 c h0 h1 h2 h3 h4 h5 h6 _ _ _ _ _ _ _)
  ihave HR := (to_recv m c) $$ [HS HrA]
  · isplitl [HS]; · iexact HS
    iexact HrA
  icases HR with ⟨HR, Hcs⟩
  iapply (part19 m K c h0 h1 h2 h3 h4 h5 h6 _) $$ [HR]
  · isplitr; · iexact HX
    iexact HR
  iintro HR
  iapply (part20 m K c h0 h1 h2 h3 h4 h5 h6 _) $$ [HR]
  · isplitr; · iexact HX
    iexact HR
  iintro HR
  iapply (part21 m K c h0 h1 h2 h3 h4 h5 h6 _ _) $$ [HR]
  · isplitr; · iexact HX
    iexact HR
  iintro HR
  iapply (part22 m K c h0 h1 h2 h3 h4 h5 h6 _ _) $$ [HR]
  · isplitr; · iexact HX
    iexact HR
  iintro HR
  iapply (part23 m K c h0 h1 h2 h3 h4 h5 h6 _ _ _) $$ [HR]
  · isplitr; · iexact HX
    iexact HR
  iintro HR
  iapply (part24 m K c h0 h1 h2 h3 h4 h5 h6 _) $$ [HR]
  · isplitr; · iexact HX
    iexact HR
  iintro HR
  iapply (part25 m K c h0 h1 h2 h3 h4 h5 h6 _) $$ [HR]
  · isplitr; · iexact HX
    iexact HR
  iintro HR
  iapply (part26 m K c h0 h1 h2 h3 h4 h5 h6 _ _) $$ [HR]
  · isplitr; · iexact HX
    iexact HR
  iintro HR
  ihave Hown : (bigSep Finset.univ fun j => slotPt c c j kept (commV m)) $$ [O0 O1 O2 O3]
  · rw [bigSep4]
    isplitl [O0]; · iexact O0
    isplitl [O1]; · iexact O1
    isplitl [O2]; · iexact O2
    iexact O3
  iapply (part27 m K c h0 h1 h2 h3 h4 h5 h6 _) $$ [HR Hown]
  · isplitr; · iexact HX
    isplitl [HR]; · iexact HR
    iexact Hown
  iintro ⟨HA, HO, HR⟩
  dsimp only
  iapply (part28 m K c h0 h1 h2 h3 h4 h5 h6) $$ [HA]
  · isplitr; · iexact HX
    iexact HA
  iintro HA
  dsimp only
  iapply (part29 m K c h0 h1 h2 h3 h4 h5 h6) $$ [HA]
  · isplitr; · iexact HX
    iexact HA
  iintro HA
  dsimp only
  iapply (part30 m K c h0 h1 h2 h3 h4 h5 h6 _ _ _ _ _ _ _ _ _ _ _ _ _ _ _ _ _ _ _ _ _ _ _ _ f) $$ [HA Ho]
  · isplitr; · iexact HX
    isplitl [HA]; · iexact HA
    iexact Ho
  iintro ⟨Ho, HA⟩
  ihave HS := (to_sent m c) $$ [HO HsA Hcs]
  · isplitl [HO]; · iexact HO
    isplitl [HsA]; · iexact HsA
    iexact Hcs
  iapply (part31 m K c h0 h1 h2 h3 h4 h5 h6) $$ [HS]
  · isplitr; · iexact HX
    iexact HS
  iintro HS
  iapply (part32 m K c h0 h1 h2 h3 h4 h5 h6) $$ [HS]
  · isplitr; · iexact HX
    iexact HS
  iintro HS
  iapply (part33 m K c h0 h1 h2 h3 h4 h5 h6) $$ [HS]
  · isplitr; · iexact HX
    iexact HS
  iintro HS
  iapply (part34 m K c h0 h1 h2 h3 h4 h5 h6) $$ [HS]
  · isplitr; · iexact HX
    iexact HS
  iintro HS
  iapply (part35 m K c h0 h1 h2 h3 h4 h5 h6) $$ [HS]
  · isplitr; · iexact HX
    iexact HS
  iintro HS
  iapply (part36 m K c h0 h1 h2 h3 h4 h5 h6) $$ [HS]
  · isplitr; · iexact HX
    iexact HS
  iintro HS
  iapply (part37 m K c h0 h1 h2 h3 h4 h5 h6) $$ [HS]
  · isplitr; · iexact HX
    iexact HS
  iintro HS
  iapply (part38 m K c h0 h1 h2 h3 h4 h5 h6 _ _ _ _ _ _) $$ [HS HXT]
  · isplitr; · iexact HX
    isplitl [HS]; · iexact HS
    iexact HXT
  iintro ⟨HE, HS⟩
  simp only [semSignalWord, semWaitWord, Prog.bind_op, Prog.bind_ret, Prog.pure_eq_ret]
  have hfin : iprop(ctx m K ∗ EW2 m c ∗ iprop(done m c kBar ∗ XC2 m c ∗ (bigSep Finset.univ fun j => WC2 m c j) ∗ idxPt m c ∗ outPt c (outV m c) ∗ allKept m c ∗ RDone m c ∗ SDone m c))
      ⊢ Run c (Prog.ret PUnit.unit) (fun _ => bodyOut m c) := by
    show _ ⊢ wp _ _ _ _ _
    rw [wp_ret]
    iintro ⟨-, H⟩
    imodintro
    unfold bodyOut
    iexact H
  iapply (step_exit m K c 5 (by decide) (k0_dev41_eq c) exit_sem rfl (step_exit m K c 6 (by decide) (k0_dev42_eq c) exit_sem rfl
    (step_exitwait m K c exit_sem rfl hfin)))
  isplitr; · iexact HX
  isplitl [HE]; · iexact HE
  isplitl [HEW]; · iexact HEW
  isplitl [Hdb]; · iexact Hdb
  isplitl [Hx]; · iexact Hx
  isplitl [W0 W1 W2 W3]
  · rw [bigSep4]
    isplitl [W0]; · iexact W0
    isplitl [W1]; · iexact W1
    isplitl [W2]; · iexact W2
    iexact W3
  isplitl [Hi]; · iexact Hi
  isplitl [Ho]; · iexact Ho
  isplitl [HA]; · iexact HA
  isplitl [HR]; · iexact HR
  iexact HS

end Body

end Cert.Moe
-- ==== Proof.Ends.lean ====
/-
# Before and after the body

What the launch gives a device, put in the order in which the body uses it; and what the body leaves, put back together:
every buffer whole, every cell of the device closed with its counter at zero.
-/
module

public import proofs.«01_k».proof.Proof.Body

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTok)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- A product over a sum of index types. -/
theorem bigSep_plus {A B : Type} [Fintype A] [Fintype B] (Φ : A ⊕ B → SP F) :
    bigSep Finset.univ Φ = iprop((bigSep Finset.univ fun a => Φ (.inl a)) ∗ bigSep Finset.univ fun b => Φ (.inr b)) :=
  bigSep_univ_sum Φ

/-- A product over a device's cells, in the order of the runs. -/
theorem cells_run (Φ : CK → SP F) :
    bigSep Finset.univ Φ
      = iprop((Φ kBar ∗ Φ kExit ∗ Φ kX) ∗ (bigSep Finset.univ fun j => Φ (kW j))
        ∗ ((bigSep Finset.univ fun j => Φ (kSend c j)) ∗ bigSep Finset.univ fun i => Φ (kSend (pd c (rS i)) (jS i)))
        ∗ ((bigSep Finset.univ fun j => Φ (kRecv c j)) ∗ bigSep Finset.univ fun i => Φ (kRecv (pd c (rW i)) (jW i)))) := by
  have h3 : (bigSep Finset.univ fun a : Fin 3 => Φ (.inl a)) = iprop(Φ kBar ∗ Φ kExit ∗ Φ kX) :=
    bigSep_univ_eq_bigSepL [0, 1, 2] (by decide) (by decide) fun a : Fin 3 => Φ (.inl a)
  rw [bigSep_plus, bigSep_plus, bigSep_plus, h3]
  have hs := own_run c sendOrd fun t j => Φ (kSend t j)
  have hr := own_run c waitOrd fun t j => Φ (kRecv t j)
  exact congrArg₂ (fun X Y => iprop((Φ kBar ∗ Φ kExit ∗ Φ kX) ∗ (bigSep Finset.univ fun j => Φ (kW j)) ∗ X ∗ Y)) hs hr

/-- A product over what a device pays, kind by kind. -/
theorem pays_run (Φ : PK → SP F) :
    bigSep Finset.univ Φ
      = iprop((bigSep Finset.univ fun r : Fin 7 => Φ (.inl r)) ∗ (bigSep Finset.univ fun r : Fin 7 => Φ (.inr (.inl r)))
        ∗ (bigSep Finset.univ fun i : Fin 28 => Φ (.inr (.inr (.inl i)))) ∗ (bigSep Finset.univ fun i : Fin 28 => Φ (.inr (.inr (.inr (.inl i)))))
        ∗ Φ (.inr (.inr (.inr (.inr (.inl 0))))) ∗ bigSep Finset.univ fun j : Fin 4 => Φ (.inr (.inr (.inr (.inr (.inr j)))))) := by
  have h1 : (bigSep Finset.univ fun a : Fin 1 => Φ (.inr (.inr (.inr (.inr (.inl a)))))) = Φ (.inr (.inr (.inr (.inr (.inl 0))))) := by
    rw [Finset.univ_unique, bigSep_singleton]; rfl
  rw [bigSep_plus, bigSep_plus, bigSep_plus, bigSep_plus, bigSep_plus, h1]

/-- The weight array, slice by slice; -/
theorem weights_slices :
    ((((c : Thread nD τ).loc main_arg3) ↦{fullShare} m ((c : Thread nD τ).loc main_arg3)) : SP F)
      = bigSep Finset.univ fun j : Fin 4 => wHPt m c j := by
  unfold wHPt
  exact Ring.pointsTo_blocks (ℓ := (c : Thread nD τ).loc main_arg3) (B := Fin 4)
    (fun j => (sliceSet j : Finset (Idx ((c : Thread nD τ).loc main_arg3)))) slice_disjoint slice_cover (m ((c : Thread nD τ).loc main_arg3))
/-- the weight buffer with any contents; -/
theorem buffer_slices (f : Buf (Elt F) ((c : Thread nD τ).loc cc0_scratch1)) :
    ((((c : Thread nD τ).loc cc0_scratch1) ↦{fullShare} f) : SP F)
      ⊢ bigSep Finset.univ fun j : Fin 4 => iprop(∃ f : Buf (Elt F) ((c : Thread nD τ).loc cc0_scratch1), ((c : Thread nD τ).loc cc0_scratch1) ↦[sliceSet j]{fullShare} f) := by
  rw [Ring.pointsTo_blocks (ℓ := (c : Thread nD τ).loc cc0_scratch1) (B := Fin 4)
    (fun j => (sliceSet j : Finset (Idx ((c : Thread nD τ).loc cc0_scratch1)))) slice_disjoint slice_cover f]
  have h (j : Fin 4) : ((((c : Thread nD τ).loc cc0_scratch1) ↦[sliceSet j]{fullShare} f) : SP F)
      ⊢ iprop(∃ f : Buf (Elt F) ((c : Thread nD τ).loc cc0_scratch1), ((c : Thread nD τ).loc cc0_scratch1) ↦[sliceSet j]{fullShare} f) := by
    iintro H; iexists f; iexact H
  exact bigSep_mono fun j _ => h j
/-- and holding the device's weights. -/
theorem filled_slices :
    (bigSep Finset.univ fun j : Fin 4 => wPt (F := F) m c j) ⊢ iprop(∃ f, ((c : Thread nD τ).loc cc0_scratch1) ↦{fullShare} f) := by
  unfold wPt
  rw [← Ring.pointsTo_blocks (ℓ := (c : Thread nD τ).loc cc0_scratch1) (B := Fin 4)
    (fun j => (sliceSet j : Finset (Idx ((c : Thread nD τ).loc cc0_scratch1)))) slice_disjoint slice_cover (wBuf m c)]
  iintro H; iexists _; iexact H

/-- The exchange buffer with any contents is the landing places of the eight devices. -/
theorem comm_landings (f : Buf (Elt F) ((c : Thread nD τ).loc cc0_scratch2)) :
    ((((c : Thread nD τ).loc cc0_scratch2) ↦{fullShare} f) : SP F)
      ⊢ iprop(landing c c ∗ bigSep Finset.univ fun r => landing c (pd c r)) := by
  have h (s : Dev nD) (j : Fin 4) : slotPt (F := F) c s j fullShare f ⊢ iprop(∃ f, slotPt c s j fullShare f) := by
    iintro H; iexists f; iexact H
  rw [← own_others c fun s => landing (F := F) c s]
  refine (Entails.of_eq (slots_whole c fullShare f)).trans ?_
  rw [bigSep_univ_prod]
  unfold landing
  exact bigSep_mono fun s _ => bigSep_mono fun j _ => h s j

/-- What the launch hands the body besides its windows: the start, and the three buffers with any contents. -/
def phiIn : SP F :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- What it gets back: every cell's counter at zero, the two arrays it read, and the three buffers. -/
def phiOut : SP F :=
  iprop((bigSep Finset.univ fun k : CK => semVal (cell c k) 0)
    ∗ (xHPt m c ∗ (((c : Thread nD τ).loc main_arg3) ↦{fullShare} m ((c : Thread nD τ).loc main_arg3)))
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The device's places in its own unused cells. -/
def unused : SP F :=
  iprop((bigSep Finset.univ fun j : Fin 4 => atPos ER (cell c (kSend c j)) 0 ∅ 0) ∗ bigSep Finset.univ fun j : Fin 4 => atPos ER (cell c (kRecv c j)) 0 ∅ 0)

theorem body_start (f : (cc0_stg1_0 : Ref sig .tc).ty.Contents (Elt F)) :
    iprop(phiIn m c ∗ owesE c (O₀ c) ∗ idxPt m c ∗ outPt c f) ⊢ iprop(∃ K, ctx m K ∗ bodyIn m c f ∗ unused c) := by
  unfold phiIn start linear credits
  rw [cells_run c, pays_run, weights_slices]
  iintro ⟨⟨⟨%K, HX, ⟨⟨⟨Ab, Ae, Ax⟩, Aw, ⟨As0, As⟩, Ar0, Ar⟩, Tb, Te, Ts, Tr, Tx, Tw⟩, ⟨Cb, Ce, Cr⟩, Hx, Hw⟩, ⟨%f0, H0⟩, ⟨%f1, H1⟩, %f2, H2⟩, HO, Hi, Ho⟩
  ihave H1 := (buffer_slices c f1) $$ H1
  ihave H2 := (comm_landings c f2) $$ H2
  icases H2 with ⟨Hown, Hland⟩
  iexists K
  isplitl [HX]; · unfold ctx; iexact HX
  isplitr [As0 Ar0]
  · unfold bodyIn
    isplitl [Tx H0 Hx]
    · unfold XC0
      isplitl [Tx]; · iexact Tx
      isplitl [H0]; · iexists f0; iexact H0
      iexact Hx
    isplitl [Tw H1 Hw]
    · unfold LW WC0
      rw [still_zero, taken_zero, bigSep_empty, bigSep_two Finset.univ, bigSep_two Finset.univ]
      isplitl
      · isplitl [Tw]; · iexact Tw
        isplitl [H1]; · iexact H1
        iexact Hw
      · iempintro
    isplitl [HO Tb Hland]
    · unfold BS
      rw [still_zero, bigSep_two Finset.univ]
      isplitl [HO]; · iexact HO
      isplitl [Tb]; · iexact Tb
      iexact Hland
    isplitl [Ab Cb]
    · unfold BW1
      isplitl [Ab]; · iexact Ab
      iexact Cb
    isplitl [Hi]; · iexact Hi
    isplitl [Ho]; · iexact Ho
    isplitl [Ax]; · iexact Ax
    isplitl [Aw]; · unfold WAt; iexact Aw
    isplitl [Ts Tr]
    · unfold STok
      rw [bigSep_two Finset.univ]
      isplitl [Ts]; · iexact Ts
      iexact Tr
    isplitl [Ar Cr]
    · unfold RAt
      rw [bigSep_two Finset.univ]
      isplitl [Ar]; · iexact Ar
      iexact Cr
    isplitl [As]; · unfold SAt; iexact As
    isplitl [Te]; · unfold XT; iexact Te
    isplitl [Ae Ce]
    · unfold EW1
      isplitl [Ae]; · iexact Ae
      iexact Ce
    iexact Hown
  · unfold unused
    isplitl [As0]; · iexact As0
    iexact Ar0

/-- A cell past its duties closes with its counter at zero. -/
theorem close_cell (k : CK) : iprop(ctx m K ∗ done m c k) ⊢ |={Set.univ}=> semVal (cell c k) 0 := by
  unfold done
  iintro ⟨#HX, %r, %hr, Hat⟩
  iapply (Rounds.cell_close ER (rd m) (Set.mem_univ (K (c, k))) (fun h => h) (R := r) hr)
  isplitr; · iapply (ctx_inv m K c k); iexact HX
  iexact Hat

/-- All of them close. -/
theorem close_cells : iprop(ctx m K ∗ bigSep Finset.univ fun k : CK => done m c k) ⊢ |={Set.univ}=> bigSep Finset.univ fun k : CK => semVal (cell c k) 0 := by
  refine (sep_mono_left (BI.bigSep_of_persistent (Finset.univ : Finset CK) (ctx m K))).trans ?_
  rw [← bigSep_two Finset.univ]
  exact (bigSep_mono fun k _ => close_cell m K c k).trans (bigSep_fupd _ _)

/-- The unused cells have no duty to be past of. -/
theorem unused_done :
    unused (F := F) c ⊢ iprop((bigSep Finset.univ fun j : Fin 4 => done m c (kSend c j)) ∗ bigSep Finset.univ fun j : Fin 4 => done m c (kRecv c j)) := by
  have h (k : CK) (hk : dutiesK c (some k) = ∅) : (atPos ER (cell c k) 0 ∅ 0 : SP F) ⊢ done m c k := by
    unfold done
    iintro H
    iexists 0
    isplitr; · (ipureintro; exact duties_none m c k hk)
    iexact H
  unfold unused
  exact BI.sep_mono (bigSep_mono fun j _ => h _ (dutiesK_send_self c j)) (bigSep_mono fun j _ => h _ (dutiesK_recv_self c j))

theorem body_end :
    iprop(ctx m K ∗ bodyOut m c ∗ unused c)
      ⊢ |={Set.univ}=> iprop(phiOut m c ∗ owesE c 0 ∗ idxPt m c ∗ outPt c (outV m c)) := by
  unfold bodyOut EW2 XC2 WC2
  rw [bigSep_two Finset.univ, bigSep_two Finset.univ]
  iintro ⟨#HX, ⟨⟨HO, De⟩, Db, ⟨Dx, Hx, HxH⟩, ⟨Dw, Hw, HwH⟩, Hi, Ho, HA, HR, HS⟩, HU⟩
  ihave HU := (unused_done m c) $$ HU
  icases HU with ⟨Ds0, Dr0⟩
  ihave HC := (ungather m c) $$ [HA HR HS]
  · isplitl [HA]; · iexact HA
    isplitl [HR]; · iexact HR
    iexact HS
  icases HC with ⟨Hc, Dr, Ds⟩
  ihave Hw := (filled_slices m c) $$ Hw
  imod (close_cells m K c) $$ [De Db Dx Dw Ds0 Dr0 Dr Ds] with Hz
  · isplitr; · iexact HX
    rw [cells_run c]
    isplitl [De Db Dx]
    · isplitl [Db]; · iexact Db
      isplitl [De]; · iexact De
      iexact Dx
    isplitl [Dw]; · iexact Dw
    isplitl [Ds0 Ds]
    · isplitl [Ds0]; · iexact Ds0
      iexact Ds
    · isplitl [Dr0]; · iexact Dr0
      iexact Dr
  imodintro
  isplitr [HO Hi Ho]
  · unfold phiOut
    isplitl [Hz]; · iexact Hz
    isplitl [HxH HwH]
    · isplitl [HxH]; · iexact HxH
      rw [weights_slices]; iexact HwH
    isplitl [Hx]; · unfold xPt; iexists _; iexact Hx
    isplitl [Hw]; · iexact Hw
    iexact Hc
  isplitl [HO]; · iexact HO
  isplitl [Hi]; · iexact Hi
  iexact Ho

/-- The body as the launch sees it. -/
theorem body_launch (h0 : xH.IsWhole) (h1 : idxM.IsWhole) (h2 : wH.IsWhole) (h3 : outM.IsWhole) (h4 : xM.IsWhole) (h5 : wM.IsWhole) (h6 : commM.IsWhole)
    (f : (cc0_stg1_0 : Ref sig .tc).ty.Contents (Elt F)) :
    iprop(phiIn m c ∗ owesE c (O₀ c) ∗ idxPt m c ∗ outPt c f)
      ⊢ Run c (cc0_body xH h0 idxM h1 wH h2 outM h3 xM h4 wM h5 commM h6 cc0_scratch3 cc0_scratch4 cc0_scratch5 cc0_scratch6 cc0_scoped0)
          (fun _ => iprop(phiOut m c ∗ owesE c 0 ∗ idxPt m c ∗ outPt c (outV m c))) := by
  refine (body_start m c f).trans ?_
  iintro ⟨%K, #HX, HB, HU⟩
  iapply (wp_fupd frame (wpE (defs₀ (F := F)) 𝒱₀ (c : Thread nD τ) none) Set.univ)
  iapply (wp_mono frame (wpE (defs₀ (F := F)) 𝒱₀ (c : Thread nD τ) none) Set.univ
    (Q := fun _ => iprop(bodyOut m c ∗ (ctx m K ∗ unused c))) fun _ => ?_)
  rotate_left
  · iapply (wp_frame_r frame (wpE (defs₀ (F := F)) 𝒱₀ (c : Thread nD τ) none) Set.univ)
    isplitl [HB]
    · iapply (body_run m K c h0 h1 h2 h3 h4 h5 h6 f)
      isplitr; · iexact HX
      iexact HB
    isplitr; · iexact HX
    iexact HU
  · refine BI.BIBase.Entails.trans ?_ (body_end m K c)
    iintro ⟨HB, HX, HU⟩
    isplitl [HX]; · iexact HX
    isplitl [HB]; · iexact HB
    iexact HU

end Cert.Moe
-- ==== Proof.Launch.lean ====
/-
# The launch

The protocol's resources made at launch, dealt to the devices, and the run of the whole program from any memory: it
ends, with the arguments as they were, every counter at zero, and on every device the output at `outV`.
-/
module

public import proofs.«01_k».proof.Proof.Ends
public import proofs.«01_k».proof.Proof.Gen.KernelIdeal.Frame
public import Idealize.ShloMosaic.Lib.Pipeline.CollectiveSegs
public import Idealize.ShloMosaic.Lib.Quiescent

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => idxv m c
    | ⟨1, _⟩ => outV m c
  Φ t := match t with
    | ⟨0, _⟩ => phiIn m c
    | ⟨_ + 1, _⟩ => phiOut m c
  q _ := fullShare
  owed t := match t with
    | ⟨0, _⟩ => O₀ c
    | ⟨_ + 1, _⟩ => 0

theorem fetch_idx (t : Fin cfg0.N) : (cfg0.win (0 : Fin 2)).fetch t = true := by rw [fin_N0 t]; rfl

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} (X : Buf (Elt F) ((c : Thread nD τ).loc b))) := owns_whole ..

set_option maxRecDepth 65536 in
/-- The body, as the pipeline asks for it. -/
theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from bigSep_W0]
  rw [show ∀ Φ : Fin cfg0.W → sProp 𝕄, bigSep Finset.univ Φ = iprop(Φ (0 : Fin 2) ∗ Φ (1 : Fin 2)) from bigSep_W0]
  show iprop(phiIn m c ∗ (dats m 0 c).owesAt () (t0_0 : Fin cfg0.N).castSucc
      ∗ (∃ d, owns (c : Thread nD τ) (Memref.whole cc0_stg0_0) fullShare ((dats m 0 c).before (0 : Fin 2) t0_0 d))
      ∗ (∃ d, owns (c : Thread nD τ) (Memref.whole cc0_stg1_0) fullShare ((dats m 0 c).before (1 : Fin 2) t0_0 d)))
    ⊢ Run c (cc0_body xH (Memref.isWhole_whole _) idxM (Memref.isWhole_whole _) wH (Memref.isWhole_whole _) outM (Memref.isWhole_whole _)
        xM (Memref.isWhole_whole _) wM (Memref.isWhole_whole _) commM (Memref.isWhole_whole _) cc0_scratch3 cc0_scratch4 cc0_scratch5 cc0_scratch6 cc0_scoped0)
      (fun _ => iprop(phiOut m c ∗ (dats m 0 c).owesAt () (t0_0 : Fin cfg0.N).succ
        ∗ owns (c : Thread nD τ) (Memref.whole cc0_stg0_0) fullShare (idxv m c)
        ∗ owns (c : Thread nD τ) (Memref.whole cc0_stg1_0) fullShare (outV m c)))
  simp only [owns_buf]
  unfold Dat.owesAt Pipeline.owesWithin
  rw [show (dats m 0 c).owed (t0_0 : Fin cfg0.N).castSucc = O₀ c from rfl, show (dats m 0 c).owed (t0_0 : Fin cfg0.N).succ = 0 from rfl]
  iintro ⟨HΦ, ⟨%W, %hW, HO⟩, ⟨%d0, Hi⟩, %d1, Ho⟩
  rw [show (dats m 0 c).before (0 : Fin 2) t0_0 d0 = idxv m c from by unfold Dat.before; rw [if_pos (fetch_idx t0_0)]; rfl]
  iapply (wp_mono frame (wpE (defs₀ (F := F)) 𝒱₀ (c : Thread nD τ) none) Set.univ
    (Q := fun _ => iprop(phiOut m c ∗ owesE c 0 ∗ idxPt m c ∗ outPt c (outV m c))) fun _ => ?_)
  rotate_left
  · iapply (body_launch m c _ _ _ _ _ _ _ ((dats m 0 c).before (1 : Fin 2) t0_0 d1))
    isplitl [HΦ]; · iexact HΦ
    isplitl [HO]; · unfold owesE; iexists W; iexact HO
    isplitl [Hi]; · unfold idxPt; iexact Hi
    unfold outPt; iexact Ho
  · unfold owesE idxPt outPt
    iintro ⟨HΦ, ⟨%W, HO⟩, Hi, Ho⟩
    isplitl [HΦ]; · iexact HΦ
    isplitl [HO]
    · iexists W
      isplitr; · (ipureintro; exact fun _ _ => Or.inl trivial)
      iexact HO
    isplitl [Hi]; · iexact Hi
    iexact Ho

/-! ## The semaphores -/

/-- The cells but the barrier. -/
abbrev OK : Type := Fin 2 ⊕ (Fin 4 ⊕ ((Dev nD × Fin 4) ⊕ (Dev nD × Fin 4)))
def ok : OK → CK
  | .inl a => .inl a.succ
  | .inr b => .inr b
/-- Their semaphores. -/
abbrev osem (x : OK) : SemLoc sig := semOf (ok x)

theorem ok_injective : Function.Injective ok := fun a b h => by
  rcases a with a | a <;> rcases b with b | b
  · exact congrArg _ (Fin.succ_injective _ (Sum.inl.inj h))
  · cases h
  · cases h
  · exact congrArg _ (Sum.inr.inj h)

theorem ownSemFacts : Pipeline.OwnSemFacts cfg0.spec osem where
  isScoped k := by
    rcases k with k | j | ⟨t, j⟩ | ⟨s, j⟩
    · revert k; decide
    · revert j; decide
    · revert t j; decide
    · revert s j; decide
  inj := semOf_injective.comp ok_injective
  disj k w s h := by
    have h1 := congrArg kindOf h
    rw [kindOf_semOf] at h1
    revert h1
    fin_cases w <;> fin_cases s <;> exact fun h1 => by cases h1

/-- A device's cells: the barrier and the others. -/
theorem cells_bar (Φ : CK → SP F) : bigSep Finset.univ Φ = iprop(Φ kBar ∗ bigSep Finset.univ fun x : OK => Φ (ok x)) := by
  have h3 : (bigSep Finset.univ fun a : Fin 3 => Φ (.inl a)) = iprop(Φ kBar ∗ Φ kExit ∗ Φ kX) :=
    bigSep_univ_eq_bigSepL [0, 1, 2] (by decide) (by decide) fun a : Fin 3 => Φ (.inl a)
  have h2 : (bigSep Finset.univ fun a : Fin 2 => Φ (ok (.inl a))) = iprop(Φ kExit ∗ Φ kX) :=
    bigSep_univ_eq_bigSepL [0, 1] (by decide) (by decide) fun a : Fin 2 => Φ (ok (.inl a))
  rw [bigSep_plus, bigSep_plus (A := Fin 2), h3, h2]
  refine BI.equiv_iff.mp ⟨?_, ?_⟩
  · change (_ : SP F) ⊢ _
    iintro ⟨⟨H0, H1, H2⟩, H⟩
    isplitl [H0]; · iexact H0
    isplitl [H1 H2]
    · isplitl [H1]; · iexact H1
      iexact H2
    iexact H
  · change (_ : SP F) ⊢ _
    iintro ⟨H0, ⟨H1, H2⟩, H⟩
    isplitl [H0 H1 H2]
    · isplitl [H0]; · iexact H0
      isplitl [H1]; · iexact H1
      iexact H2
    iexact H

/-- The barrier semaphore is the launch's one unscoped semaphore. -/
theorem unscopedSems0_eq (c : Dev nD) : (unscopedSems0 c : SP F) = semVal (cell c kBar) 0 := by
  unfold unscopedSems0; rw [bigSep_eq_bigSepL_of_eq [SemLoc.reg barS] (by decide) (by decide)]; rfl

theorem sems_eq (c : Dev nD) :
    (bigSep Finset.univ fun k : CK => semVal (cell c k) 0)
      = iprop(unscopedSems0 c ∗ Pipeline.ownSems0 (Ix := Unit) (Name := ℕ) (U := UU) (Lvl := ℕ) (Val := Elt F) (τ := τ) osem c) := by
  rw [cells_bar, unscopedSems0_eq]; rfl

/-! ## The protocol's resources at launch -/

theorem payCell_injective (c : Dev nD) : Function.Injective (payCell c) := fun x y h => by
  rcases x with r | r | i | i | a | j <;> rcases y with r' | r' | i' | i' | a' | j' <;> obtain ⟨h1, h2⟩ := cell_eq_iff.mp h
  case inl.inl => rw [pd_inj c h1]
  case inr.inl.inr.inl => rw [pd_inj c h1]
  case inr.inr.inl.inr.inr.inl =>
    have h3 := Sum.inl.inj (Sum.inr.inj (Sum.inr.inj h2))
    rw [sendOrd.injective (a₁ := i) (a₂ := i') (Prod.ext (pd_inj c (congrArg Prod.fst h3)) (show jS i = jS i' from congrArg Prod.snd h3))]
  case inr.inr.inr.inl.inr.inr.inr.inl =>
    have h3 := Sum.inr.inj (Sum.inr.inj (Sum.inr.inj h2))
    rw [sendOrd.injective (a₁ := i) (a₂ := i') (Prod.ext (pd_inj c h1) (show jS i = jS i' from congrArg Prod.snd h3))]
  case inr.inr.inr.inr.inl.inr.inr.inr.inr.inl => rw [Subsingleton.elim a a']
  case inr.inr.inr.inr.inr.inr.inr.inr.inr.inr => rw [Sum.inl.inj (Sum.inr.inj h2)]
  all_goals cases h2

/-- All cells, -/
def allCells : Finset (GSem nD τ sig) := (Finset.univ : Finset (Dev nD × CK)).map ⟨fun p => cell p.1 p.2, cell_injective⟩
/-- and what is paid, by whom. -/
abbrev tokOf (p : Dev nD × PK) : GSem nD τ sig × ℕ × Dev nD := (payCell p.1 p.2, 0, p.1)
theorem tokOf_injective : Function.Injective tokOf := by
  rintro ⟨c, x⟩ ⟨c', x'⟩ h
  have h1 : c = c' := congrArg (fun t : GSem nD τ sig × ℕ × Dev nD => t.2.2) h
  subst h1
  have h2 : x = x' := payCell_injective c (congrArg Prod.fst h)
  rw [h2]
def allToks : Finset (GSem nD τ sig × ℕ × Dev nD) := (Finset.univ : Finset (Dev nD × PK)).map ⟨tokOf, tokOf_injective⟩

def u₀ : UU :=
  (initOf (Pipeline.cells cfgs cellOf_inj) (Pipeline.launchToks cfgs cellOf_inj), initOf allCells allToks)

/-- What the launch deals a device, -/
def G (c : Dev nD) : SP F :=
  iprop((bigSep Finset.univ fun k : CK => roundState ER (rd m) (cell c k) 0) ∗ (bigSep Finset.univ fun k : CK => reached ER (cell c k) 0) ∗ linear c)
/-- and what it has once the cells are shared. -/
def G' (c : Dev nD) : SP F := iprop(∃ K, records m K ∗ linear c)

theorem fund_all : BI.own (ER (initOf allCells allToks)) ⊢ (|==> bigSep Finset.univ (G m) : SP F) := by
  have hX (Φ : GSem nD τ sig → SP F) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : SP F)) = bigSep Finset.univ fun c : Dev nD => bigSep Finset.univ fun x : PK => dutyTok ER (payCell c x) 0 c := by
    unfold allToks; rw [bigSep_map, bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G linear
  rw [bigSep_two Finset.univ, bigSep_two Finset.univ, bigSep_two Finset.univ]
  isplitl [Hst']; · iexact Hst'
  isplitl [Hr']; · iexact Hr'
  isplitl [Hat']; · iexact Hat'
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (cell c k)))
          ∗ (bigSep Finset.univ fun k : CK => reached ER (cell c k) 0) ∗ linear c) := by
  unfold G
  have h : iprop((bigSep Finset.univ fun k : CK => semVal (cell c k) 0) ∗ bigSep Finset.univ fun k : CK => roundState ER (rd m) (cell c k) 0)
      ⊢ (|={Set.univ}=> bigSep Finset.univ fun k : CK => iprop(∃ κ : ℕ, cellInv ER (rd m) κ (cell c k)) : SP F) := by
    rw [← bigSep_two Finset.univ]
    exact (bigSep_mono fun k _ => (Rounds.body_intro ER (rd m) (cell c k)).trans inv_alloc).trans (bigSep_fupd _ _)
  rw [sems_eq] at h
  iintro ⟨Hos, Hus, Hst, Hr, Hl⟩
  imod h $$ [Hos Hus Hst] with Hinv
  · isplitl [Hos Hus]
    · isplitl [Hus]; · iexact Hus
      iexact Hos
    iexact Hst
  imodintro
  isplitl [Hinv]; · iexact Hinv
  isplitl [Hr]; · iexact Hr
  iexact Hl

theorem regroup :
    (bigSep Finset.univ fun c : Dev nD => iprop((bigSep Finset.univ fun k : CK => iprop(∃ κ : ℕ, cellInv ER (rd m) κ (cell c k)))
          ∗ (bigSep Finset.univ fun k : CK => reached ER (cell c k) 0) ∗ linear c) : SP F)
      ⊢ bigSep Finset.univ (G' m) := by
  rw [bigSep_two Finset.univ, bigSep_two Finset.univ,
    ← bigSep_univ_prod (fun p : Dev nD × CK => (iprop(∃ κ : ℕ, cellInv ER (rd m) κ (cell p.1 p.2)) : SP F)),
    ← bigSep_univ_prod (fun p : Dev nD × CK => (reached ER (cell p.1 p.2) 0 : SP F))]
  iintro ⟨HI, #HR, Hl⟩
  ihave HK := (BI.bigSep_exists_pi Finset.univ (fun (p : Dev nD × CK) (κ : ℕ) => (cellInv ER (rd m) κ (cell p.1 p.2) : SP F))) $$ HI
  icases HK with ⟨%K, #HI⟩
  have h (c : Dev nD) : iprop(records m K ∗ linear c) ⊢ G' m c := by
    unfold G'; iintro H; iexists K; iexact H
  have hall : iprop(records m K ∗ bigSep Finset.univ fun c : Dev nD => linear (F := F) c) ⊢ bigSep Finset.univ (G' m) := by
    refine (sep_mono_left (BI.bigSep_of_persistent (Finset.univ : Finset (Dev nD)) (records m K))).trans ?_
    rw [← bigSep_two Finset.univ]
    exact bigSep_mono fun c _ => h c
  iapply hall
  isplitr
  · unfold records; isplitl; · iexact HI
    iexact HR
  iexact Hl

theorem glob : (bigSep Finset.univ fun c => iprop(Pipeline.ownSems0 (Ix := Unit) (Name := ℕ) (U := UU) (Lvl := ℕ) (Val := Elt F) (τ := τ) osem c ∗ unscopedSems0 c ∗ G m c) : SP F)
    ⊢ |={Set.univ}=> bigSep Finset.univ (G' m) :=
  ((bigSep_mono fun c _ => core_alloc m c).trans (bigSep_fupd _ _)).trans (BI.fupd_mono (regroup m))

/-! ## The credits at launch -/

/-- A sum of single debts at a cell. -/
theorem sum_tally {ι : Type} (S : Finset ι) (f : ι → GSem nD τ sig) (n : ℕ) (g : GSem nD τ sig) :
    (∑ i ∈ S, (tallyAt (f i) () n : CellTallies nD τ sig Unit)) g () = ∑ i ∈ S, if g = f i then n else 0 := by
  rw [Finset.sum_apply, Finsupp.finset_sum_apply]
  refine Finset.sum_congr rfl fun i _ => ?_
  rw [tallyAt_apply]
  by_cases h : g = f i
  · rw [if_pos ⟨h, rfl⟩, if_pos h]
  · rw [if_neg fun h' => h h'.1, if_neg h]

/-- What device `d` owes cell `k` of device `c` at launch. -/
theorem owed_cell (c d : Dev nD) (k : CK) :
    O₀ d (cell c k) () = (∑ r : Fin 7, if c = pd d r ∧ k = kExit then 1 else 0)
      + (∑ i : Fin 28, if c = pd d (rS i) ∧ k = kRecv d (jS i) then Ns else 0) + ∑ r : Fin 7, if c = pd d r ∧ k = kBar then 1 else 0 := by
  unfold O₀ exitO sendO barO
  rw [Pi.add_apply, Finsupp.add_apply, Pi.add_apply, Finsupp.add_apply, sum_tally, sum_tally, sum_tally, still_zero, still_zero]
  simp only [cell_eq_iff]

theorem pd_count (c : Dev nD) : (∑ d : Dev nD, ∑ r : Fin 7, if c = pd d r then 1 else 0) = 7 := by revert c; decide
theorem pd_once (c : Dev nD) (r : Fin 7) : (∑ r' : Fin 7, if c = pd (pd c r) r' then 1 else 0) = 1 := by revert c r; decide

theorem owed_bar (c : Dev nD) : (∑ d : Dev nD, O₀ d (cell c kBar) ()) = 7 := by
  rw [← pd_count c]
  refine Finset.sum_congr rfl fun d _ => ?_
  rw [owed_cell, Finset.sum_eq_zero fun r _ => if_neg fun h => (by cases h.2), Finset.sum_eq_zero fun i _ => if_neg fun h => (by cases h.2), Nat.zero_add, Nat.zero_add]
  exact Finset.sum_congr rfl fun r _ => by simp only [and_true]
theorem owed_exit (c : Dev nD) : (∑ d : Dev nD, O₀ d (cell c kExit) ()) = 7 := by
  rw [← pd_count c]
  refine Finset.sum_congr rfl fun d _ => ?_
  rw [owed_cell, Finset.sum_eq_zero (s := (Finset.univ : Finset (Fin 28))) fun i _ => if_neg fun h => (by cases h.2),
    Finset.sum_eq_zero (f := fun r : Fin 7 => if c = pd d r ∧ kExit = kBar then 1 else 0) fun r _ => if_neg fun h => (by cases h.2), Nat.add_zero, Nat.add_zero]
  exact Finset.sum_congr rfl fun r _ => by simp only [and_true]
theorem owed_recv (c : Dev nD) (r : Fin 7) (j : Fin 4) : (∑ d : Dev nD, O₀ d (cell c (kRecv (pd c r) j)) ()) = Ns := by
  have hz (d : Dev nD) : O₀ d (cell c (kRecv (pd c r) j)) () = ∑ i : Fin 28, if c = pd d (rS i) ∧ kRecv (pd c r) j = kRecv d (jS i) then Ns else 0 := by
    rw [owed_cell, Finset.sum_eq_zero (s := (Finset.univ : Finset (Fin 7))) fun i _ => if_neg fun h => (by cases h.2),
      Finset.sum_eq_zero (s := (Finset.univ : Finset (Fin 7))) fun r _ => if_neg fun h => (by cases h.2), Nat.add_zero, Nat.zero_add]
  rw [Finset.sum_eq_single (pd c r)]
  · rw [hz]
    rw [show (∑ i : Fin 28, if c = pd (pd c r) (rS i) ∧ kRecv (pd c r) j = kRecv (pd c r) (jS i) then Ns else 0)
        = ∑ p : Fin 7 × Fin 4, if c = pd (pd c r) p.1 ∧ j = p.2 then Ns else 0 from by
      rw [← Equiv.sum_comp sendOrd]
      refine Finset.sum_congr rfl fun i _ => ?_
      refine if_congr ⟨fun h => ⟨h.1, congrArg Prod.snd (Sum.inr.inj (Sum.inr.inj (Sum.inr.inj h.2)))⟩, fun h => ⟨h.1, by rw [h.2]; rfl⟩⟩ rfl rfl]
    rw [Fintype.sum_prod_type]
    have h1 (r' : Fin 7) : (∑ j' : Fin 4, if c = pd (pd c r) r' ∧ j = j' then Ns else 0) = (if c = pd (pd c r) r' then 1 else 0) * Ns := by
      by_cases h : c = pd (pd c r) r'
      · rw [if_pos h, one_mul, Finset.sum_congr rfl fun j' _ => if_congr (and_iff_right h) rfl rfl, Finset.sum_ite_eq, if_pos (Finset.mem_univ _)]
      · rw [if_neg h, zero_mul, Finset.sum_eq_zero fun j' _ => if_neg fun h' => h h'.1]
    rw [Finset.sum_congr rfl fun r' _ => h1 r', ← Finset.sum_mul, pd_once, one_mul]
  · intro d _ hd
    rw [hz]
    exact Finset.sum_eq_zero fun i _ => if_neg fun h => hd (congrArg Prod.fst (Sum.inr.inj (Sum.inr.inj (Sum.inr.inj h.2)))).symm
  · intro h; exact absurd (Finset.mem_univ _) h

theorem launch_tally (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : SP F) ⊢ credits c := by
  have hsub : (Pipeline.launchCred O₀ c : SP F)
      ⊢ bigSep Finset.univ fun k : CK => cred (tallyOn (cell c k) (launchCredit (Pipeline.owing O₀) 0 (cell c k))) := by
    unfold Pipeline.launchCred
    have h := bigSep_map (s := (Finset.univ : Finset CK)) (⟨semOf, semOf_injective⟩ : CK ↪ SemLoc sig)
      (Φ := fun sm : SemLoc sig => (cred (tallyOn ((c : Thread nD τ), sm) (launchCredit (Pipeline.owing O₀) 0 ((c : Thread nD τ), sm))) : SP F))
    exact (bigSep_subset (Finset.subset_univ _)).trans (Entails.of_eq h)
  refine hsub.trans ?_
  rw [cells_run c]
  unfold credits
  have hr : (bigSep Finset.univ fun i : Fin 28 => cred (tallyOn (cell c (kRecv (pd c (rW i)) (jW i))) (launchCredit (Pipeline.owing O₀) 0 (cell c (kRecv (pd c (rW i)) (jW i))))) : SP F)
      = bigSep Finset.univ fun i : Fin 28 => cred (tallyAt (cell c (kRecv (pd c (rW i)) (jW i))) () Ns) :=
    bigSep_congr fun i _ => by rw [launch_tally _ _ (owed_recv c (rW i) (jW i))]
  rw [hr, launch_tally _ _ (owed_bar c), launch_tally _ _ (owed_exit c)]
  iintro ⟨⟨Hb, He, -⟩, -, -, -, Hr⟩
  isplitl [Hb]; · iexact Hb
  isplitl [He]; · iexact He
  iexact Hr

/-! ## The run -/

/-- What a device keeps of the arguments outside its windows while the body runs, and after. -/
def kept1 (c : Dev nD) : SP F := ((c : Thread nD τ).loc main_arg1) ↦{fullShare} m ((c : Thread nD τ).loc main_arg1)
def exitY (c : Dev nD) : SP F :=
  iprop(unscopedSems0 c ∗ xHPt m c ∗ (((c : Thread nD τ).loc main_arg3) ↦{fullShare} m ((c : Thread nD τ).loc main_arg3)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept1 m c) := by
  rw [Pipeline.unscopedRestP_none, unscopedRest0_eq]
  iintro ⟨⟨H0, H1, H3⟩, Hlev, Hcr, -, HG⟩
  ihave Hc := (creds (F := F) c) $$ Hcr
  imodintro
  unfold start G' kept1 xHPt
  icases HG with ⟨%K, HR, HL⟩
  isplitr [H1]
  · iexists K
    isplitl [HR Hlev]
    · isplitl [HR]; · iexact HR
      iexact Hlev
    isplitl [HL]; · iexact HL
    isplitl [Hc]; · iexact Hc
    isplitl [H0]; · iexact H0
    iexact H3
  · iexact H1

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = phiIn m c from rfl, scopedRest0_eq]
  unfold phiIn
  iintro ⟨Hs, -, Hr⟩
  isplitl [Hs]; · iexact Hs
  iexact Hr

theorem phi_out (c : Dev nD) :
    (dats m 0 c).Φ (Fin.last cfg0.N) ⊢ iprop(exitY m c ∗ Pipeline.ownSems0 osem c ∗ Pipeline.scopedRest cfg0.spec c) := by
  rw [show (dats m 0 c).Φ (Fin.last cfg0.N) = phiOut m c from rfl, scopedRest0_eq]
  unfold phiOut exitY
  rw [sems_eq]
  iintro ⟨⟨Hu, Ho⟩, Ha, Hr⟩
  isplitl [Hu Ha]
  · isplitl [Hu]; · iexact Hu
    iexact Ha
  isplitl [Ho]; · iexact Ho
  iexact Hr

theorem waits (c : Dev nD) : (levAts L lv : SP F) ⊢ Pipeline.cellsWaits cfgs (dats m) () 0 c :=
  Pipeline.cellsWaits_intro cfgs (dats m) () 0 c fun w s t => by
    refine mayWait_of c _ 0 _ (by fin_cases w <;> fin_cases s <;> decide) ?_
    rcases t with ⟨_ | _, ht⟩
    · exact ((above_exit (by decide) c 0).add (above_send (by decide) c 0)).add (above_bar c 0)
    · exact Above.zero 0

/-- What the run leaves on device `c`, apart from the windows' arrays. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg3) = m ((c : Thread nD τ).loc main_arg3)

theorem read_out (c : Dev nD) (s' : Phys nD τ sig (Elt F)) :
    iprop(exitY m c ∗ kept1 m c ∗ SI s') ⊢ |={Set.univ}=> iprop(⌜QY m c s'.mem⌝ ∗ (SI s' : SP F)) := by
  unfold exitY kept1 xHPt
  iintro ⟨⟨Hu, H0, H3⟩, H1, HSI⟩
  icombine HSI H0 gives %h0
  icombine HSI H1 gives %h1
  icombine HSI H3 gives %h3
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ h0, Buf.eq_of_forall_mem_univ h1, Buf.eq_of_forall_mem_univ h3⟩
  iexact HSI

set_option maxRecDepth 8000 in
/-- From any memory with all counters at zero the program ends on every device; the arguments are as they were, every
    counter is at zero, and the output is `outV`. -/
theorem run_main :
    θ_run defs (onTc (τ := τ) (main (F := F))) ⟨m, fun _ => 0, ρ⟩ (fun r =>
      (∀ c : Dev nD, r.2.mem ((c : Thread nD τ).loc main_v1) = (dats m 0 c).arrAt (1 : Fin 2) cfg0.N
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := exitY m) (Z := kept1 m)
    (hX := start_intro m ρ) (hin := phi_in m) (hout := phi_out m)
    (QY := QY m)
    (hY := read_out m)
    (hQ := fun s h hs => ⟨fun c => ⟨(h c).1 (1 : Fin 2), (h c).2.2.2.1, (h c).2.2.2.2.1,
      ((h c).1 (0 : Fin 2)).trans ((dats (F := F) m 0 c).arrAt_in (0 : Fin 2) rfl _), (h c).2.2.2.2.2⟩, sem_eq_zero hs fun c => (h c).2.2.1⟩)

end Cert.Moe
-- ==== Proof.Frames.lean ====
/-
  The three frames: each program ends from any memory, with its arguments as they were and every semaphore counter
  at zero.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.Moe

open Idealize.ShloMosaic Idealize.SL.Sem

/-- What a frame says of one final state, the kernel's arguments being those of `m`. -/
abbrev Framed {F : FTy → Type} (m : (ℓ : Loc Cert.KernelIdeal.nD Cert.KernelIdeal.τ Cert.KernelIdeal.sig) → Buf (Elt F) ℓ)
    (s : MemSt Cert.KernelIdeal.nD Cert.KernelIdeal.τ Cert.KernelIdeal.sig (Elt F)) : Prop :=
  (∀ c : Dev Cert.KernelIdeal.nD,
    s.mem (c.tc.loc Cert.KernelIdeal.main_arg0) = m (c.tc.loc Cert.KernelIdeal.main_arg0)
    ∧ s.mem (c.tc.loc Cert.KernelIdeal.main_arg1) = m (c.tc.loc Cert.KernelIdeal.main_arg1)
    ∧ s.mem (c.tc.loc Cert.KernelIdeal.main_arg2) = m (c.tc.loc Cert.KernelIdeal.main_arg2)
    ∧ s.mem (c.tc.loc Cert.KernelIdeal.main_arg3) = m (c.tc.loc Cert.KernelIdeal.main_arg3))
  ∧ s.sem = fun _ => 0

/-- The kernel's frame at any float values. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => Framed m r.2) :=
  (θ_run Cert.KernelIdeal.defs _ _).mono (fun _ h => ⟨fun c => (h.1 c).2, h.2⟩) (run_main m ρ)

/-- The kernel read at the exact floats: its frame. -/
theorem frame_ideal : Cert.quiescent_KernelIdeal := fun m ρ _ => frame_any (F := Ideal) m ρ

set_option maxRecDepth 100000 in
/-- The two readings of the kernel run the same body. -/
theorem bodies_same : Cert.Kernel.defs₀ (F := Bits) = Cert.KernelIdeal.defs₀ (F := Bits) := by
  unfold Cert.Kernel.defs₀ Cert.KernelIdeal.defs₀
  congr 1
  funext l x
  match l with
  | 0 => rfl

/-- The two readings of the kernel are the same table of programs. -/
theorem tables_same : Cert.Kernel.defs (F := Bits) = Cert.KernelIdeal.defs (F := Bits) := by
  unfold Cert.Kernel.defs Cert.KernelIdeal.defs
  rw [bodies_same]
  rfl

/-- The kernel read at the machine's floats: its frame. The two programs have one text, so it is the same run. -/
theorem frame_kernel : Cert.quiescent_Kernel := fun m ρ _ => by
  rw [tables_same]
  exact frame_any (F := Bits) m ρ

/-- The reference's frame: it is a list of host operations and has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Moe

end
-- ==== Proof.Count.lean ====
/-
  Counting. Tokens stand in a line; `p i` says that token `i` chose a given expert. `Nat.count p (i + 1)` is then how
  many of the tokens up to and including `i` chose it.
-/
module

public import Mathlib.Data.Nat.Count
public import Mathlib.Data.EReal.Operations
public import Mathlib.Algebra.BigOperators.Fin

@[expose] public section

namespace Cert.Moe

variable (p : ℕ → Prop) [DecidablePred p]

/-- How many of the last `d` tokens up to and including token `i` chose the expert. -/
def win (d i : ℕ) : ℕ := Nat.count p (i + 1) - Nat.count p (i + 1 - d)

theorem win_one (i : ℕ) : win p 1 i = if p i then 1 else 0 := by
  unfold win
  rw [show i + 1 - 1 = i from rfl, Nat.count_succ]
  omega

/-- Fewer than `d` tokens stand before token `i`: looking further back counts no more. -/
theorem win_short {d i : ℕ} (h : i < d) : win p (d + d) i = win p d i := by
  unfold win
  rw [show i + 1 - (d + d) = 0 by omega, show i + 1 - d = 0 by omega]

/-- The last `2 d` tokens are the last `d` and the `d` before them. -/
theorem win_long {d i : ℕ} (h : d ≤ i) : win p (d + d) i = win p d i + win p d (i - d) := by
  unfold win
  rw [show i - d + 1 = i + 1 - d by omega, show i + 1 - (d + d) = i + 1 - d - d by omega]
  have h1 : Nat.count p (i + 1 - d) ≤ Nat.count p (i + 1) := Nat.count_monotone p (by omega)
  have h2 : Nat.count p (i + 1 - d - d) ≤ Nat.count p (i + 1 - d) := Nat.count_monotone p (by omega)
  omega

theorem win_full {d i : ℕ} (h : i < d) : win p d i = Nat.count p (i + 1) := by
  unfold win
  rw [show i + 1 - d = 0 by omega, Nat.count_zero, Nat.sub_zero]

/-- The place of token `i` in the expert's queue, counted from one, if the expert serves it; otherwise zero. -/
def place (i : ℕ) : ℕ := if p i ∧ Nat.count p (i + 1) ≤ 25 then Nat.count p (i + 1) else 0

theorem place_le (i : ℕ) : place p i ≤ 25 := by
  unfold place; split <;> omega

theorem place_pos {i : ℕ} : place p i ≠ 0 ↔ p i ∧ Nat.count p (i + 1) ≤ 25 := by
  unfold place
  split
  · rename_i h
    have : Nat.count p (i + 1) = Nat.count p i + 1 := by rw [Nat.count_succ, if_pos h.1]
    exact ⟨fun _ => h, fun _ => by omega⟩
  · rename_i h
    exact ⟨fun h' => absurd rfl h', fun h' => absurd h' h⟩

/-- No two tokens have one place. -/
theorem place_inj {i i' k : ℕ} (h : place p i = k + 1) (h' : place p i' = k + 1) : i = i' := by
  have a := (place_pos p (i := i)).1 (by omega)
  have a' := (place_pos p (i := i')).1 (by omega)
  unfold place at h h'
  rw [if_pos a] at h
  rw [if_pos a'] at h'
  have e : Nat.count p (i + 1) = Nat.count p i + 1 := by rw [Nat.count_succ, if_pos a.1]
  have e' : Nat.count p (i' + 1) = Nat.count p i' + 1 := by rw [Nat.count_succ, if_pos a'.1]
  exact Nat.count_injective a.1 a'.1 (by omega)

/-- A sum over the tokens that are at place `k + 1` has one term, the token's that is there. -/
theorem sum_at_place {n : ℕ} (f : Fin n → EReal) {i : Fin n} {k : ℕ} (h : place p i = k + 1) :
    ∑ i' : Fin n, (if place p i' = k + 1 then (1 : EReal) else 0) * f i' = f i := by
  rw [Finset.sum_eq_single i]
  · rw [if_pos h, one_mul]
  · intro i' _ hne
    rw [if_neg fun h' => hne (Fin.ext (place_inj p h' h)), zero_mul]
  · intro h'; exact absurd (Finset.mem_univ i) h'

/-- A sum over the places has the term of the place that the token has, or none. -/
theorem sum_places (i : ℕ) (y : EReal) (g : Fin 25 → EReal) (hg : ∀ k : Fin 25, place p i = k.val + 1 → g k = y) :
    ∑ k : Fin 25, (if place p i = k.val + 1 then (1 : EReal) else 0) * g k
      = if p i ∧ Nat.count p (i + 1) ≤ 25 then y else 0 := by
  by_cases h : place p i = 0
  · rw [if_neg fun h' => (place_pos p).2 h' h]
    exact Finset.sum_eq_zero fun k _ => by rw [if_neg (by omega), zero_mul]
  · rw [if_pos ((place_pos p).1 h)]
    have hl := place_le p i
    rw [Finset.sum_eq_single (⟨place p i - 1, by omega⟩ : Fin 25)]
    · have e : place p i = place p i - 1 + 1 := by omega
      rw [if_pos e, one_mul]
      exact hg _ e
    · intro k _ hne
      rw [if_neg fun h' => hne (Fin.ext (by show k.val = place p i - 1; omega)), zero_mul]
    · intro h'; exact absurd (Finset.mem_univ _) h'

end Cert.Moe
-- ==== Proof.Places.lean ====
/-
  The token-by-expert array of places, at the exact floats: its entry is the token's place in the expert's queue, or
  zero. The kernel counts by shifting and adding, doubling the reach each time.
-/
module

public import proofs.«01_k».proof.Proof.Body
public import proofs.«01_k».proof.Proof.Count
public import Idealize.ShloMosaic.Lib.Pointwise

@[expose] public section

set_option maxRecDepth 16384

noncomputable section

namespace Cert.Moe

open Cert.KernelIdeal Cert.KernelIdeal.Gen
open Idealize.ShloMosaic Idealize.SL.Sem

/-- Token `i` chose expert `e`. -/
def chose (t : S1024x1.Idx → BitVec 32) (e i : ℕ) : Prop := ∃ h : i < 1024, t (ix2 ⟨i, h⟩ 0) = BitVec.ofNat 32 e

instance (t : S1024x1.Idx → BitVec 32) (e : ℕ) : DecidablePred (chose t e) := fun i => by unfold chose; infer_instance

theorem chose_iff (t : S1024x1.Idx → BitVec 32) (e : ℕ) (i : Fin 1024) : chose t e i ↔ t (ix2 i 0) = BitVec.ofNat 32 e :=
  ⟨fun h => h.2, fun h => ⟨i.isLt, h⟩⟩

/-- A bit read as a float is one or zero. -/
theorem float_bit (b : BitVec 1) : (FloatOps.sitofp .f32 (b.setWidth 32) : Ideal .f32) = if b = 1#1 then 1 else 0 := by
  show (((b.setWidth 32).toInt : ℝ) : EReal) = _
  have h : b = 0#1 ∨ b = 1#1 := by revert b; decide
  rcases h with rfl | rfl
  · rw [if_neg (by decide), show ((0#1 : BitVec 1).setWidth 32).toInt = 0 by decide]; simp
  · rw [if_pos rfl, show ((1#1 : BitVec 1).setWidth 32).toInt = 1 by decide]; simp

/-- The bit of a decided proposition, read as a float. -/
theorem float_ofBool (q : Prop) [Decidable q] :
    (FloatOps.sitofp .f32 ((BitVec.ofBool (decide q)).setWidth 32) : Ideal .f32) = if q then 1 else 0 := by
  rw [float_bit]
  by_cases h : q
  · rw [if_pos h, decide_eq_true h, if_pos (by decide)]
  · rw [if_neg h, decide_eq_false h, if_neg (by decide)]

/-- The bit of an equality of words, read as a float. -/
theorem float_eq (a b : BitVec 32) :
    (FloatOps.sitofp .f32 ((IntOp.cmpi .eq a b).setWidth 32) : Ideal .f32) = if a = b then 1 else 0 := by
  rw [show IntOp.cmpi .eq a b = BitVec.ofBool (decide (a = b)) from rfl, float_ofBool]

/-- A small number read as a float is that number. -/
theorem float_nat {n : ℕ} (h : n < 2 ^ 31) : (FloatOps.sitofp .f32 (BitVec.ofNat 32 n) : Ideal .f32) = ((n : ℕ) : EReal) := by
  show (((BitVec.ofNat 32 n).toInt : ℝ) : EReal) = _
  rw [show (BitVec.ofNat 32 n).toInt = (n : ℤ) by rw [BitVec.toInt_eq_toNat_of_lt] <;> rw [BitVec.toNat_ofNat] <;> omega]
  norm_cast

/-- The float the capacity is compared with. -/
theorem float_cap : Ideal.ofBits .f32 0x41C80000#32 = ((25 : ℕ) : EReal) := by
  rw [show ((25 : ℕ) : EReal) = ((25 : ℝ) : EReal) by norm_cast]
  simp [Ideal.ofBits, Ideal.ieee, -EReal.coe_mul]; norm_num

/-- The kernel's choices: one where the token chose the expert. -/
theorem choices (t : Vec Ideal S1024x1 .i32) (i : Fin 1024) (e : Fin 32) :
    k0_pay1 t (ix2 i e) = if chose t e i then (1 : EReal) else 0 := by
  pointwise [k0_pay1]
  rw [float_eq]
  exact if_congr (chose_iff t e i).symm rfl rfl

/-- `P` holds, for every token and expert, how many of the last `d` tokens chose the expert. -/
def Counts (t : Vec Ideal S1024x1 .i32) (d : ℕ) (P : FVec Ideal S1024x32 .f32) : Prop :=
  ∀ (i : Fin 1024) (e : Fin 32), P (ix2 i e) = ((win (chose t e) d i : ℕ) : EReal)

theorem counts_choices (t : Vec Ideal S1024x1 .i32) : Counts t 1 (k0_pay1 t) := fun i e => by
  rw [choices, win_one]
  split <;> simp

/-- Rows shifted down by `d`, with `z` above. -/
theorem shifted {d r : ℕ} (P : FVec Ideal S1024x32 .f32) (z : Ideal .f32) (hs) (hc) (i : Fin 1024) (e : Fin 32) :
    concatenate S1024x32 0 [⟨(⟨2, ![d, 32]⟩ : Shape), broadcast ⟨2, ![d, 32]⟩ z⟩,
        ⟨(⟨2, ![r, 32]⟩ : Shape), extractStridedSlice ⟨2, ![r, 32]⟩ ![0, 0] P hs⟩] hc (ix2 i e)
      = if i.val < d then z else P (ix2 ⟨i.val - d, by omega⟩ e) := by
  pointwise []
  by_cases h : i.val < d
  · rw [dif_pos h, if_pos h]
  · rw [dif_neg h, if_neg h]
    rfl

/-- One step of the count: adding the rows from `d` above doubles the reach. -/
theorem counts_step {t : Vec Ideal S1024x1 .i32} {d r : ℕ} {P : FVec Ideal S1024x32 .f32} (hP : Counts t d P) (z : Ideal .f32)
    (hz : z = 0) (hs) (hc) :
    Counts t (d + d) (addf P (concatenate S1024x32 0 [⟨(⟨2, ![d, 32]⟩ : Shape), broadcast ⟨2, ![d, 32]⟩ z⟩,
        ⟨(⟨2, ![r, 32]⟩ : Shape), extractStridedSlice ⟨2, ![r, 32]⟩ ![0, 0] P hs⟩] hc)) := fun i e => by
  show P (ix2 i e) + concatenate S1024x32 0 _ hc (ix2 i e) = _
  rw [shifted, hP i e]
  by_cases h : i.val < d
  · rw [if_pos h, hz, add_zero, win_short _ h]
  · rw [if_neg h, hP, win_long _ (by omega : d ≤ i.val), Nat.cast_add]

/-- The zero the shifted rows are filled with. -/
theorem fill_zero : (Scalar.ofBits .f32 0x00000000#32 : Ideal .f32) = 0 := Ideal.ofBits_zero_f32

/-- Six steps reach 64 tokens back. -/
theorem counts64 (t : Vec Ideal S1024x1 .i32) : Counts t 64 (k0_pay2 t) :=
  counts_step (d := 32) (r := 992) (counts_step (d := 16) (r := 1008) (counts_step (d := 8) (r := 1016)
    (counts_step (d := 4) (r := 1020) (counts_step (d := 2) (r := 1022) (counts_step (d := 1) (r := 1023) (counts_choices t)
      _ fill_zero _ _) _ fill_zero _ _) _ fill_zero _ _) _ fill_zero _ _) _ fill_zero _ _) _ fill_zero _ _

/-- The count over all tokens up to the token, before the capacity is looked at. -/
def counted (t : Vec Ideal S1024x1 .i32) : FVec Ideal S1024x32 .f32 :=
  have v90 : FVec Ideal S1024x32 .f32 := addf (k0_pay2 t) (k0_pay3 t)
  have v94 : FVec Ideal S1024x32 .f32 := addf v90 (concatenate S1024x32 0 [⟨S128x32, broadcast S128x32 (Scalar.ofBits .f32 0x00000000#32)⟩,
    ⟨S896x32, extractStridedSlice S896x32 ![0, 0] v90 slices_S1024x32_o0_0_S896x32⟩] concatenates_S128x32_S896x32_S1024x32_d0)
  have v98 : FVec Ideal S1024x32 .f32 := addf v94 (concatenate S1024x32 0 [⟨S256x32, broadcast S256x32 (Scalar.ofBits .f32 0x00000000#32)⟩,
    ⟨S768x32, extractStridedSlice S768x32 ![0, 0] v94 slices_S1024x32_o0_0_S768x32⟩] concatenates_S256x32_S768x32_S1024x32_d0)
  addf v98 (concatenate S1024x32 0 [⟨S512x32, broadcast S512x32 (Scalar.ofBits .f32 0x00000000#32)⟩,
    ⟨S512x32, extractStridedSlice S512x32 ![0, 0] v98 slices_S1024x32_o0_0_S512x32⟩] concatenates_S512x32_S512x32_S1024x32_d0)

theorem counts1024 (t : Vec Ideal S1024x1 .i32) : Counts t 1024 (counted t) :=
  counts_step (d := 512) (r := 512) (counts_step (d := 256) (r := 768) (counts_step (d := 128) (r := 896)
    (counts_step (d := 64) (r := 960) (counts64 t) _ fill_zero _ concatenates_S64x32_S960x32_S1024x32_d0) _ fill_zero _ _) _ fill_zero _ _) _ fill_zero _ _

/-- The array of places, from the count. -/
theorem places_of_counted (t : Vec Ideal S1024x1 .i32) (i : Fin 1024) (e : Fin 32) :
    k0_pay4 (k0_pay1 t) (k0_pay2 t) (k0_pay3 t) (ix2 i e)
      = (counted t (ix2 i e) * k0_pay1 t (ix2 i e))
        * (if counted t (ix2 i e) * k0_pay1 t (ix2 i e) ≤ ((25 : ℕ) : EReal) then 1 else 0) := by
  rw [← float_cap, ← float_ofBool]
  rfl

/-- The array of places. -/
theorem places (t : Vec Ideal S1024x1 .i32) (i : Fin 1024) (e : Fin 32) :
    k0_pay4 (k0_pay1 t) (k0_pay2 t) (k0_pay3 t) (ix2 i e) = ((place (chose t e) i : ℕ) : EReal) := by
  rw [places_of_counted, counts1024 t i e, choices, win_full _ i.isLt]
  unfold place
  by_cases h : chose t e i
  · rw [if_pos h, mul_one]
    by_cases hk : Nat.count (chose t e) (i.val + 1) ≤ 25
    · rw [if_pos (by exact_mod_cast hk), if_pos ⟨h, hk⟩, mul_one]
    · rw [if_neg (by exact_mod_cast hk), if_neg (fun h' => hk h'.2), mul_zero]; simp
  · rw [if_neg h, mul_zero, zero_mul, if_neg (fun h' => h h'.1)]; simp

end Cert.Moe

end
-- ==== Proof.Select.lean ====
/-
  The two selections, at the exact floats. A row of a device's feed, and a row of the gathered output, is numbered by an
  expert and a place; the kernel finds the token by comparing places.
-/
module

public import proofs.«01_k».proof.Proof.Places

@[expose] public section

set_option maxRecDepth 16384

noncomputable section

namespace Cert.Moe

open Cert.KernelIdeal Cert.KernelIdeal.Gen
open Idealize.ShloMosaic Idealize.SL.Sem

/-- The places of the tokens whose choices are `t`, as the kernel holds them. -/
abbrev placesOf (t : Vec Ideal S1024x1 .i32) : FVec Ideal S1024x32 .bf16 := k0_pay4 (k0_pay1 t) (k0_pay2 t) (k0_pay3 t)

/-- One where token `i` has place `k + 1` in the queue of expert `e`. -/
def mark (t : Vec Ideal S1024x1 .i32) (e k i : ℕ) : EReal := if place (chose t e) i = k + 1 then 1 else 0

/-- A product with a column that is one at `E` alone picks entry `E`. -/
theorem pick (s : Fin 32 → EReal) (w : Fin 32 → BitVec 32) (E : Fin 32) (hw : ∀ x : Fin 32, w x = BitVec.ofNat 32 E) :
    ∑ x : Fin 32, s x * (FloatOps.sitofp .f32 ((IntOp.cmpi .eq (BitVec.ofNat 32 x) (w x)).setWidth 32) : Ideal .f32) = s E := by
  rw [Finset.sum_eq_single E]
  · rw [float_eq, hw, if_pos rfl, mul_one]
  · intro x _ hne
    rw [float_eq, hw, if_neg, mul_zero]
    intro h
    apply hne
    have := congrArg BitVec.toNat h
    rw [BitVec.toNat_ofNat, BitVec.toNat_ofNat] at this
    exact Fin.ext (by omega)
  · intro h; exact absurd (Finset.mem_univ E) h

/-- Comparing the place in queue `E` with `k + 1` marks the token that has that place. -/
theorem marks (t : Vec Ideal S1024x1 .i32) (w : Fin 32 → BitVec 32) (E : Fin 32) (hw : ∀ x : Fin 32, w x = BitVec.ofNat 32 E)
    (v : BitVec 32) {k : ℕ} (hk : k < 25) (hv : v = BitVec.ofNat 32 (k + 1)) (i : Fin 1024) :
    (FloatOps.sitofp .f32 ((BitVec.ofBool (decide
      (∑ x : Fin 32, placesOf t (ix2 i x) * (FloatOps.sitofp .f32 ((IntOp.cmpi .eq (BitVec.ofNat 32 x) (w x)).setWidth 32) : Ideal .f32)
        = (FloatOps.sitofp .f32 v : Ideal .f32)))).setWidth 32) : Ideal .f32) = mark t E k i := by
  have hp : placesOf t (ix2 i E) = ((place (chose t E) i : ℕ) : EReal) := places t i E
  rw [float_ofBool, pick (fun x => placesOf t (ix2 i x)) w E hw, hp, hv, float_nat (by omega)]
  unfold mark
  exact if_congr (by norm_cast) rfl rfl

/-- The expert that row `q` of device `c`'s feed is for. -/
theorem fed_expert (c : Dev nD) (x : Fin 32) (q : Fin 100) :
    IntOp.addi (k0_pay6 (word c) (ix2 x q)) (k0_pay5 (ix2 x q)) = BitVec.ofNat 32 (4 * c.val + q.val / 25) := by
  pointwise [k0_pay5, k0_pay6]
  revert c q
  decide +kernel

/-- The feed of device `c`: each row is the token that has the row's place in the queue of the row's expert. -/
theorem fed (t : Vec Ideal S1024x1 .i32) (c : Dev nD) (x : Vec Ideal S1024x512 .f32) (q : Fin 100) (d : Fin 512) :
    k0_pay7 (placesOf t) rows100 k0_pay5 (k0_pay6 (word c)) x (ix2 q d)
      = ∑ i : Fin 1024, mark t (4 * c.val + q.val / 25) (q.val % 25) i * x (ix2 i d) := by
  pointwise [k0_pay7]
  refine Finset.sum_congr rfl fun i _ => ?_
  congr 1
  refine marks t (fun x => IntOp.addi (k0_pay6 (word c) (ix2 x q)) (k0_pay5 (ix2 x q)))
    ⟨4 * c.val + q.val / 25, by have := c.isLt; have h8 : c.val < 8 := this; omega⟩ (fun x => fed_expert c x q) _ (Nat.mod_lt _ (by decide)) ?_ i
  revert q
  decide +kernel

/-- The kernel's quotient of a column number by 25, as it rounds it down. -/
def quotient (q : BitVec 32) : BitVec 32 :=
  Scalar.select
    (IntOp.andi
      (IntOp.cmpi .ne (IntOp.subi (BitVec.setWidth 32 (IntOp.cmpi .sgt q 0#32)) (BitVec.setWidth 32 (IntOp.cmpi .slt q 0#32)))
        (Scalar.subi (Scalar.extui (Scalar.cmpi .sgt 25#32 0#32)) (Scalar.extui (Scalar.cmpi .slt 25#32 0#32))))
      (IntOp.cmpi .ne (IntOp.remsi .vector q 25#32) 0#32))
    (IntOp.subi (IntOp.divsi .vector q 25#32) 1#32) (IntOp.divsi .vector q 25#32)

theorem quotient_eq (q : Fin 800) : quotient (BitVec.ofNat 32 q.val) = BitVec.ofNat 32 (q.val / 25) := by
  revert q; decide +kernel

/-- The gathering selection: row `q` is marked at the token that has the row's place in the queue of the row's expert. -/
theorem gathers (t : Vec Ideal S1024x1 .i32) (i : Fin 1024) (q : Fin 800) :
    k0_pay19 (placesOf t) rows800 cols800 25#32 k0_pay17 k0_pay18 (ix2 i q) = mark t (q.val / 25) (q.val % 25) i := by
  pointwise [k0_pay19, k0_pay17, k0_pay18]
  refine marks t (fun _ => quotient (BitVec.ofNat 32 q.val)) ⟨q.val / 25, by omega⟩ (fun _ => quotient_eq q) _ (Nat.mod_lt _ (by decide)) ?_ i
  revert q
  decide +kernel

end Cert.Moe

end
-- ==== Proof.Blocks.lean ====
/-
  The blocks the devices exchange and the output gathered from them, at the exact floats.
-/
module

public import proofs.«01_k».proof.Proof.Select
public import Idealize.ShloMosaic.Lib.Pipeline.Value

@[expose] public section

set_option maxRecDepth 16384

noncomputable section

namespace Cert.Moe

open Cert.KernelIdeal Cert.KernelIdeal.Gen
open Idealize.ShloMosaic Idealize.SL.Sem
open TcCoe

variable (m : (ℓ : Loc nD τ sig) → Buf (Elt Ideal) ℓ)

/-- The tokens of device `c`, -/
def tokens (c : Dev nD) : FVec Ideal S1024x512 .f32 := m ((c : Thread nD τ).loc main_arg0)
/-- and its weights. -/
def weights (c : Dev nD) : FVec Ideal S4x512x1024 .f32 := m ((c : Thread nD τ).loc main_arg3)

/-- Slice `j` of the weight buffer is expert `j`'s matrix. -/
theorem wv_apply (c : Dev nD) (j : Fin 4) (d : Fin 512) (b : Fin 1024) : wv m c j (ix3 0 d b) = weights m c (ix3 j d b) := by
  unfold wv
  rw [View.readAt_apply]
  show m ((c : Thread nD τ).loc main_arg3) ((sliceR j).emb (ix3 0 d b)) = m ((c : Thread nD τ).loc main_arg3) (ix3 j d b)
  congr 1
  funext a
  apply Fin.ext
  rw [ValueKit.rect_emb_unit_val]
  fin_cases a
  · show j.val + 0 = j.val; omega
  · show 0 + d.val = d.val; omega
  · show 0 + b.val = b.val; omega

/-- Row `a` of what device `c` computes for its expert `j`. -/
theorem blk_apply (c : Dev nD) (j : Fin 4) (a : Fin 25) (b : Fin 1024) :
    blk m c j (ix4 0 0 a b)
      = ∑ d : Fin 512, cx m c (ix2 ⟨25 * j.val + a.val, by omega⟩ d) * weights m c (ix3 j d b) := by
  simp only [← wv_apply]
  fin_cases j
  · show k0_pay9 (cx0 m c) (wv m c 0) (ix4 0 0 a b) = _
    pointwise [k0_pay9, cx0, k0_pay8]
    rfl
  · show k0_pay11 (k0_pay10 (cx m c)) (wv m c 1) (ix4 0 0 a b) = _
    pointwise [k0_pay11, k0_pay10]
  · show k0_pay13 (k0_pay12 (cx m c)) (wv m c 2) (ix4 0 0 a b) = _
    pointwise [k0_pay13, k0_pay12]
  · show k0_pay16 (k0_pay14 (cx m c)) (k0_pay15 (wv m c 3)) (constant S25x1024 .f32 0x00000000#32) (ix4 0 0 a b) = _
    pointwise [k0_pay16, k0_pay14, k0_pay15]

/-- The rows of the `n`-th block, blocks counted by expert. -/
def rowsOf (n : Fin 32) : FVec Ideal S25x1024 .bf16 :=
  shapeCast S25x1024 (blk m (⟨n.val / 4, by show n.val / 4 < 8; omega⟩ : Dev nD) ⟨n.val % 4, by omega⟩) shapeCasts_S1x1x25x1024_S25x1024

/-- The output: the gathering selection times the blocks, one above the other. -/
theorem outV_eq (c : Dev nD) :
    outV m c = matmul dot_S1024x800_S800x1024_S1024x1024_1_0_0_1_n_n none (k0_pay19 (placesOf (idxv m c)) rows800 cols800 25#32 k0_pay17 k0_pay18)
      (concatenate S800x1024 0 (List.ofFn fun n : Fin 32 => (⟨S25x1024, rowsOf m n⟩ : (s : Shape) × (s.Idx → Ideal .bf16)))
        concatenates_S25x1024_S25x1024_S25x1024_S25x1024_S25x1024_S25x1024_S25x1024_S25x1024_S25x1024_S25x1024_S25x1024_S25x1024_S25x1024_S25x1024_S25x1024_S25x1024_S25x1024_S25x1024_S25x1024_S25x1024_S25x1024_S25x1024_S25x1024_S25x1024_S25x1024_S25x1024_S25x1024_S25x1024_S25x1024_S25x1024_S25x1024_S25x1024_S800x1024_d0)
      (constant S1024x1024 .f32 0x00000000#32) := rfl

/-- The gathering product at an entry. -/
theorem gather_product (g : FVec Ideal S1024x800 .bf16) (b : FVec Ideal S800x1024 .bf16) (i o : Fin 1024) :
    matmul dot_S1024x800_S800x1024_S1024x1024_1_0_0_1_n_n none g b (constant S1024x1024 .f32 0x00000000#32) (ix2 i o)
      = ∑ q : Fin 800, g (ix2 i q) * b (ix2 q o) := by
  pointwise []

/-- The blocks one above the other, at an entry. -/
theorem outV_apply (c : Dev nD) (i : Fin 1024) (o : Fin 1024) :
    outV m c (ix2 i o) = ∑ q : Fin 800, mark (idxv m c) (q.val / 25) (q.val % 25) i
      * rowsOf m ⟨q.val / 25, by omega⟩ (ix2 ⟨q.val % 25, Nat.mod_lt _ (by decide)⟩ o) := by
  rw [outV_eq, gather_product]
  refine Finset.sum_congr rfl fun q _ => ?_
  rw [gathers]
  congr 1
  refine concatenate_ofFn_apply (t := S800x1024) (s₁ := S25x1024) (0 : Fin 2) (rowsOf m) _ rfl 25 rfl (ix2 q o) ⟨q.val / 25, by omega⟩ rfl
    (ix2 ⟨q.val % 25, Nat.mod_lt _ (by decide)⟩ o) rfl ?_
  intro b hb
  fin_cases b
  · exact absurd rfl hb
  · rfl

/-- A sum over 800 rows is a sum over 32 experts and 25 places. -/
theorem sum_rows (f : Fin 800 → EReal) :
    ∑ q : Fin 800, f q = ∑ e : Fin 32, ∑ k : Fin 25, f ⟨k.val + 25 * e.val, by omega⟩ := by
  rw [← Fintype.sum_prod_type' (fun (e : Fin 32) (k : Fin 25) => f ⟨k.val + 25 * e.val, by omega⟩)]
  exact (Fintype.sum_equiv (finProdFinEquiv (m := 32) (n := 25)) _ f (fun _ => rfl)).symm

/-- Expert `j` of device `c` is one of the 32. -/
theorem expert_lt (c : Dev nD) (j : Fin 4) : 4 * c.val + j.val < 32 := by have h : c.val < 8 := c.isLt; omega

section Shared
variable {T : Vec Ideal S1024x1 .i32} {X : FVec Ideal S1024x512 .f32} {W : (⟨3, ![32, 512, 1024]⟩ : Shape).Idx → EReal}
  (hT : ∀ c, idxv m c = T) (hX : ∀ c, tokens m c = X)
  (hW : ∀ (c : Dev nD) (j : Fin 4) (d : Fin 512) (b : Fin 1024),
    weights m c (ix3 j d b) = W (ix3 ⟨4 * c.val + j.val, expert_lt c j⟩ d b))
include hT hX hW

/-- Row `k` of expert `e`'s block. -/
theorem rows_apply (e : Fin 32) (k : Fin 25) (o : Fin 1024) :
    rowsOf m e (ix2 k o) = ∑ d : Fin 512, (∑ i : Fin 1024, mark T e k i * X (ix2 i d)) * W (ix3 e d o) := by
  pointwise [rowsOf]
  rw [blk_apply]
  refine Finset.sum_congr rfl fun d _ => ?_
  rw [hW]
  have hc : cx m (⟨e.val / 4, by show e.val / 4 < 8; omega⟩ : Dev nD) (ix2 ⟨25 * (e.val % 4) + k.val, by omega⟩ d)
      = ∑ i : Fin 1024, mark T e k i * X (ix2 i d) := by
    refine (fed (idxv m _) _ (xv m _) _ d).trans ?_
    refine Finset.sum_congr rfl fun i _ => ?_
    rw [hT]
    show mark T (4 * (e.val / 4) + (25 * (e.val % 4) + k.val) / 25) ((25 * (e.val % 4) + k.val) % 25) i * tokens m _ (ix2 i d) = _
    rw [hX, show 4 * (e.val / 4) + (25 * (e.val % 4) + k.val) / 25 = e.val by omega,
      show (25 * (e.val % 4) + k.val) % 25 = k.val by omega]
  refine congrArg₂ (· * ·) hc (congrArg W (congrArg (fun x => ix3 x d o) (Fin.ext ?_)))
  show 4 * (e.val / 4) + e.val % 4 = e.val
  omega

/-- What the kernel leaves: for every expert that serves the token, the token times the expert's matrix. -/
theorem output (c : Dev nD) (i : Fin 1024) (o : Fin 1024) :
    outV m c (ix2 i o) = ∑ e : Fin 32, if chose T e i ∧ Nat.count (chose T e) (i.val + 1) ≤ 25
      then ∑ d : Fin 512, X (ix2 i d) * W (ix3 e d o) else 0 := by
  rw [outV_apply, sum_rows]
  refine Finset.sum_congr rfl fun e _ => ?_
  refine Eq.trans ?_ (sum_places (chose T e) i.val (∑ d : Fin 512, X (ix2 i d) * W (ix3 e d o))
    (fun k => rowsOf m e (ix2 k o)) fun k hk => ?_)
  · refine Finset.sum_congr rfl fun k _ => ?_
    rw [hT]
    have h1 : (k.val + 25 * e.val) / 25 = e.val := by omega
    have h2 : (k.val + 25 * e.val) % 25 = k.val := by omega
    simp only [h1, h2]
    rfl
  · rw [rows_apply m hT hX hW]
    refine Finset.sum_congr rfl fun d _ => ?_
    rw [← sum_at_place (chose T e) (fun i' => X (ix2 i' d)) hk]
    rfl

end Shared

end Cert.Moe

end
-- ==== Proof.Reference.lean ====
/-
  What the reference leaves in its result array, as one sum: an output entry is the sum over the experts, where expert `e`
  contributes to token `i` when `i` chose `e` and is among the first 25 tokens that did.
-/
module
public import proofs.«01_k».proof.Proof.Count
public import proofs.«01_k».proof.Proof.Places
public import proofs.«01_k».proof.Proof.Gen.ReferenceIdeal.Run
public import Idealize.ShloMosaic.Lib.Pointwise
public import Idealize.ShloMosaic.Lib.Routing.OpsOne

@[expose] public section

set_option maxRecDepth 16384

noncomputable section

namespace Cert.Moe

open Cert.ReferenceIdeal Cert.ReferenceIdeal.Gen
open Idealize.ShloMosaic Idealize.SL.Sem
open TcCoe

/-- The layer's output at token `i` and feature `o`: the products with the matrices of the experts that serve `i`. -/
def served (T : Vec Ideal S1024x1 .i32) (X : FVec Ideal S1024x512 .f32) (W : FVec Ideal S32x512x1024 .f32) (i o : Fin 1024) : EReal :=
  ∑ e : Fin 32, if chose T e i ∧ Nat.count (chose T e) (i.val + 1) ≤ 25 then ∑ d : Fin 512, X (ix2 i d) * W (ix3 e d o) else 0

/-- Adding up ones and zeros over the first `n` numbers counts the ones. -/
theorem sum_ones (p : ℕ → Prop) [DecidablePred p] (n : ℕ) : ((List.range n).map fun i => if p i then 1 else 0).sum = Nat.count p n := by
  induction n with
  | zero => rfl
  | succ n ih => rw [List.range_succ, List.map_append, List.sum_append, ih, Nat.count_succ]; simp

/-- A number up to 1024 compared with 25 as signed words. -/
theorem sle_25 : ∀ n : Fin 1025, IntOp.cmpi (w := 32) .sle (BitVec.ofNat 32 n.val) 25#32 = if n.val ≤ 25 then 1#1 else 0#1 := by
  decide +kernel

/-- The running number of the tokens that chose each expert, as the reference computes it. -/
theorem running (T : Vec Ideal S1024x1 .i32) (init : IVec S_ 32) (hinit : init ix0 = 0#32)
    (x : IVec S1024x32 32) (hx : ∀ (i : Fin 1024) (e : Fin 32), x (ix2 i e) = if chose T e i then 1#32 else 0#32)
    (h : S1024x32.ReduceWindows (![1024, 1] : Fin 2 → Nat) ![1, 1] ![1023, 0] ![0, 0] S1024x32) (hu : 0 < S_.numel) (i : Fin 1024) (e : Fin 32) :
    Host.reduceWindow IntOp.addi ![1024, 1] ![1, 1] ![1023, 0] ![0, 0] x init h hu (ix2 i e)
      = BitVec.ofNat 32 (Nat.count (chose T e) (i.val + 1)) :=
  (Routing.cumsum_rows (Rm1 := 1023) rfl x (fun i e => if chose T e i then 1 else 0)
    (fun i e => (hx i e).trans (by show _ = BitVec.ofNat 32 (if chose T e.val i.val then 1 else 0); split <;> rfl)) init hinit h hu i e).trans
    (congrArg (BitVec.ofNat 32) (sum_ones _ _))

/-- A choice word compared with an expert's number, widened. -/
theorem chose_word (T : Vec Ideal S1024x1 .i32) (e : ℕ) (i : Fin 1024) :
    IntOp.cmpi (w := 32) .eq (T (ix2 i 0)) (BitVec.ofNat 32 e) = if chose T e i then 1#1 else 0#1 := by
  rw [if_congr (chose_iff T e i) rfl rfl]
  by_cases h : T (ix2 i 0) = BitVec.ofNat 32 e
  · rw [if_pos h, h]; simp [IntOp.cmpi]
  · rw [if_neg h]; exact congrArg BitVec.ofBool (beq_eq_false_iff_ne.mpr h)

/-- Picking by two conditions at once. -/
theorem select_both (p q : Prop) [Decidable p] [Decidable q] (a : EReal) (b : EReal) (hb : b = 0) :
    Scalar.select (α := EReal) (IntOp.andi (if p then 1#1 else 0#1) (if q then 1#1 else 0#1)) a b = if p ∧ q then a else 0 := by
  subst hb
  by_cases hp : p <;> by_cases hq : q <;> simp [hp, hq, Scalar.select, IntOp.andi]

/-- The reference's run: its result array holds the layer's output and its arguments are as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ (c : Dev nD),
      (∀ i o : Fin 1024, (r.2.mem ((c.tc : Thread nD τ).loc main_v13) : FVec Ideal S1024x1024 .f32) (ix2 i o)
        = served (m ((c.tc : Thread nD τ).loc main_arg2)) (m ((c.tc : Thread nD τ).loc main_arg0)) (m ((c.tc : Thread nD τ).loc main_arg3)) i o)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun i o => ?_, (h c).2⟩) (Cert.ReferenceIdeal.Value.run (F := Ideal) m ρ)
  rw [(h c).1]
  generalize (m ((c.tc : Thread nD τ).loc main_arg2)) = T
  pointwise []
  unfold served
  refine Finset.sum_congr (M := EReal) rfl fun e _ => ?_
  rw [running T _ (by pointwise []) _ (fun i e => by
    pointwise []; rw [chose_word]; split <;> rfl), chose_word,
    sle_25 ⟨Nat.count (chose T e) (i.val + 1), Nat.lt_succ_of_le ((Nat.count_le (chose T e)).trans (by have := i.isLt; omega))⟩]
  exact select_both _ _ _ _ Ideal.ofBits_zero_f32

end Cert.Moe

end
-- ==== Proof.Equal.lean ====
/-
  The kernel's output on every device is the reference's: both are the sum over the experts that serve a token.
-/
module

public import proofs.«01_k».proof.Defs
public import proofs.«01_k».proof.Proof.Launch
public import proofs.«01_k».proof.Proof.Blocks
public import proofs.«01_k».proof.Proof.Reference

@[expose] public section

set_option maxRecDepth 16384

noncomputable section

namespace Cert.Moe

open Cert.KernelIdeal Cert.KernelIdeal.Gen
open Idealize.ShloMosaic Idealize.SL.Sem
open TcCoe

local instance : Cert.KernelIdeal.Facts := Cert.KernelIdeal.Gen.facts
local instance : Cert.ReferenceIdeal.Facts := Cert.ReferenceIdeal.Gen.facts

variable (m : (ℓ : Loc nD τ sig) → Buf (Elt Ideal) ℓ)

/-- The output window's only block is the whole array: an index of the block is the same index of the array. -/
theorem out_emb (i : S1024x1024.Idx) : (win0_1.rect (0 : Fin 1)).emb i = i := by
  funext a
  refine Fin.ext ?_
  rw [Rect.emb_apply]
  show 0 * _ + 1 * (i a).val = (i a).val
  rw [Nat.zero_mul, Nat.zero_add, Nat.one_mul]

/-- The same of the window of the choices. -/
theorem idx_emb (i : S1024x1.Idx) : (win0_0.rect (0 : Fin 1)).emb i = i := by
  funext a
  refine Fin.ext ?_
  rw [Rect.emb_apply]
  show 0 * _ + 1 * (i a).val = (i a).val
  rw [Nat.zero_mul, Nat.zero_add, Nat.one_mul]

/-- Every device reads the whole array of choices. -/
theorem idxv_eq (c : Dev nD) : idxv m c = m ((c : Thread nD τ).loc main_arg2) :=
  funext fun i => congrArg (m ((c : Thread nD τ).loc main_arg2)) (idx_emb i)

/-- The result array ends holding the gathered output. -/
theorem result_eq (c : Dev nD) : (dats m 0 c).arrAt (1 : Fin 2) cfg0.N = outV m c := by
  refine (dats m 0 c).arrAt_eq_of_cover (1 : Fin 2) (outV m c) (fun t _ => ?_) (fun i => ?_)
  · obtain rfl := fin_N0 t
    funext i
    exact (congrArg (outV m c) (out_emb i)).symm
  · refine ⟨t0_0, flush0_1 _, ?_⟩
    have h := ((cfg0.win (1 : Fin 2)).blk t0_0).view.emb_mem_set i
    rwa [show ((cfg0.win (1 : Fin 2)).blk t0_0).view.emb i = i from out_emb i] at h

/-- Block `c` of the experts' matrices holds experts `4c` to `4c + 3`. -/
theorem block_expert (W : FVec Ideal Cert.ReferenceIdeal.S32x512x1024 .f32) (c : Dev nD) (j : Fin 4) (d : Fin 512) (b : Fin 1024) :
    Layout.block ⟨3, ![4, 512, 1024]⟩ ⟨3, ![32, 512, 1024]⟩ 0 8 c W (by decide) (ix3 j d b)
      = W (ix3 ⟨4 * c.val + j.val, expert_lt c j⟩ d b) := by
  refine congrArg W (funext fun a => Fin.ext ?_)
  rw [Layout.Tiles.idx_val]
  match a with
  | ⟨0, _⟩ => show c.val * 4 + j.val = 4 * c.val + j.val; omega
  | ⟨1, _⟩ => rfl
  | ⟨2, _⟩ => rfl

/-- From memories that agree, the weights cut over the devices, the kernel and the reference end with the same result. -/
theorem algebraic : Cert.algebraic_KernelIdeal_ReferenceIdeal := by
  intro m g m' g' _ hm
  let T : Vec Ideal S1024x1 .i32 := m' (((0 : Dev Cert.ReferenceIdeal.nD).tc : Thread Cert.ReferenceIdeal.nD Cert.ReferenceIdeal.τ).loc Cert.ReferenceIdeal.main_arg2)
  let X : FVec Ideal S1024x512 .f32 := m' (((0 : Dev Cert.ReferenceIdeal.nD).tc : Thread Cert.ReferenceIdeal.nD Cert.ReferenceIdeal.τ).loc Cert.ReferenceIdeal.main_arg0)
  let W : FVec Ideal Cert.ReferenceIdeal.S32x512x1024 .f32 := m' (((0 : Dev Cert.ReferenceIdeal.nD).tc : Thread Cert.ReferenceIdeal.nD Cert.ReferenceIdeal.τ).loc Cert.ReferenceIdeal.main_arg3)
  have hout : ∀ (c : Dev nD) (i o : Fin 1024), outV m c (ix2 i o) = served T X W i o := fun c i o =>
    output m (T := T) (X := X) (W := W) (fun c => (idxv_eq m c).trans (hm c).2.2.1) (fun c => (hm c).1)
      (fun c j d b => (congrFun (hm c).2.2.2 (ix3 j d b)).trans (block_expert W c j d b)) c i o
  refine ⟨fun j : S1024x1024.Idx => served T X W (j 0) (j 1), ?_, ?_⟩
  · refine (θ_run defs _ _).mono (fun r h c => ⟨?_, (h.1 c).2⟩) (run_main (F := Ideal) m g)
    rw [(h.1 c).1, result_eq]
    funext j
    rw [show j = ix2 (j 0) (j 1) from eq_ix2 j]
    exact hout c _ _
  · refine (θ_run Cert.ReferenceIdeal.defs _ _).mono (fun r h => ⟨?_, (h 0).2⟩) (reference_run m' g')
    funext j
    rw [show j = ix2 (j 0) (j 1) from eq_ix2 j]
    exact (h 0).1 _ _

end Cert.Moe

end
-- ==== Proof.lean ====
/-
  The certificate: the three frames, that the kernel read at the exact floats is the kernel's own text, and that its result
  is the reference's.
-/
module

public import proofs.«01_k».proof.Proof.Gen.ReferenceIdeal.Run
public import proofs.«01_k».proof.Defs
public import proofs.«01_k».proof.Proof.Frames
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The whole claim. -/
theorem claim : Cert.Claim := ⟨Cert.Kernel.Gen.facts, Cert.KernelIdeal.Gen.facts, Cert.ReferenceIdeal.Gen.facts,
  Cert.Moe.frame_kernel, Cert.Moe.frame_ideal, Cert.Moe.frame_reference, trivial, Cert.Moe.algebraic⟩

end Cert.Proof

end
